-- ==== Defs.lean ====
def Pre_Kernel (m : (ℓ : Loc Cert.Kernel.nD Cert.Kernel.τ Cert.Kernel.sig) → Buf (Elt Bits) ℓ) : Prop :=
  True

def Pre_KernelIdeal (m : (ℓ : Loc Cert.KernelIdeal.nD Cert.KernelIdeal.τ Cert.KernelIdeal.sig) → Buf (Elt Ideal) ℓ) : Prop :=
  True

def Pre_KernelIdeal_finite [hPre_finite : Cert.Pre_finite.Facts] (m : (ℓ : Loc Cert.KernelIdeal.nD Cert.KernelIdeal.τ Cert.KernelIdeal.sig) → Buf (Elt Ideal) ℓ) : Prop :=
  ∀ c : Dev Cert.KernelIdeal.nD,
    (Cert.Pre_finite.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7)) (m ((c.tc : Thread Cert.KernelIdeal.nD Cert.KernelIdeal.τ).loc Cert.KernelIdeal.main_arg8)) (m ((c.tc : Thread Cert.KernelIdeal.nD Cert.KernelIdeal.τ).loc Cert.KernelIdeal.main_arg9)) (m ((c.tc : Thread Cert.KernelIdeal.nD Cert.KernelIdeal.τ).loc Cert.KernelIdeal.main_arg10)) (m ((c.tc : Thread Cert.KernelIdeal.nD Cert.KernelIdeal.τ).loc Cert.KernelIdeal.main_arg11)) (m ((c.tc : Thread Cert.KernelIdeal.nD Cert.KernelIdeal.τ).loc Cert.KernelIdeal.main_arg12)) (m ((c.tc : Thread Cert.KernelIdeal.nD Cert.KernelIdeal.τ).loc Cert.KernelIdeal.main_arg13))).1 = (fun _ => 1#1)
    ∧ (Cert.Pre_finite.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7)) (m ((c.tc : Thread Cert.KernelIdeal.nD Cert.KernelIdeal.τ).loc Cert.KernelIdeal.main_arg8)) (m ((c.tc : Thread Cert.KernelIdeal.nD Cert.KernelIdeal.τ).loc Cert.KernelIdeal.main_arg9)) (m ((c.tc : Thread Cert.KernelIdeal.nD Cert.KernelIdeal.τ).loc Cert.KernelIdeal.main_arg10)) (m ((c.tc : Thread Cert.KernelIdeal.nD Cert.KernelIdeal.τ).loc Cert.KernelIdeal.main_arg11)) (m ((c.tc : Thread Cert.KernelIdeal.nD Cert.KernelIdeal.τ).loc Cert.KernelIdeal.main_arg12)) (m ((c.tc : Thread Cert.KernelIdeal.nD Cert.KernelIdeal.τ).loc Cert.KernelIdeal.main_arg13))).2.1 = (fun _ => 1#1)
    ∧ (Cert.Pre_finite.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7)) (m ((c.tc : Thread Cert.KernelIdeal.nD Cert.KernelIdeal.τ).loc Cert.KernelIdeal.main_arg8)) (m ((c.tc : Thread Cert.KernelIdeal.nD Cert.KernelIdeal.τ).loc Cert.KernelIdeal.main_arg9)) (m ((c.tc : Thread Cert.KernelIdeal.nD Cert.KernelIdeal.τ).loc Cert.KernelIdeal.main_arg10)) (m ((c.tc : Thread Cert.KernelIdeal.nD Cert.KernelIdeal.τ).loc Cert.KernelIdeal.main_arg11)) (m ((c.tc : Thread Cert.KernelIdeal.nD Cert.KernelIdeal.τ).loc Cert.KernelIdeal.main_arg12)) (m ((c.tc : Thread Cert.KernelIdeal.nD Cert.KernelIdeal.τ).loc Cert.KernelIdeal.main_arg13))).2.2.1 = (fun _ => 1#1)
    ∧ (Cert.Pre_finite.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7)) (m ((c.tc : Thread Cert.KernelIdeal.nD Cert.KernelIdeal.τ).loc Cert.KernelIdeal.main_arg8)) (m ((c.tc : Thread Cert.KernelIdeal.nD Cert.KernelIdeal.τ).loc Cert.KernelIdeal.main_arg9)) (m ((c.tc : Thread Cert.KernelIdeal.nD Cert.KernelIdeal.τ).loc Cert.KernelIdeal.main_arg10)) (m ((c.tc : Thread Cert.KernelIdeal.nD Cert.KernelIdeal.τ).loc Cert.KernelIdeal.main_arg11)) (m ((c.tc : Thread Cert.KernelIdeal.nD Cert.KernelIdeal.τ).loc Cert.KernelIdeal.main_arg12)) (m ((c.tc : Thread Cert.KernelIdeal.nD Cert.KernelIdeal.τ).loc Cert.KernelIdeal.main_arg13))).2.2.2.1 = (fun _ => 1#1)
    ∧ (Cert.Pre_finite.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7)) (m ((c.tc : Thread Cert.KernelIdeal.nD Cert.KernelIdeal.τ).loc Cert.KernelIdeal.main_arg8)) (m ((c.tc : Thread Cert.KernelIdeal.nD Cert.KernelIdeal.τ).loc Cert.KernelIdeal.main_arg9)) (m ((c.tc : Thread Cert.KernelIdeal.nD Cert.KernelIdeal.τ).loc Cert.KernelIdeal.main_arg10)) (m ((c.tc : Thread Cert.KernelIdeal.nD Cert.KernelIdeal.τ).loc Cert.KernelIdeal.main_arg11)) (m ((c.tc : Thread Cert.KernelIdeal.nD Cert.KernelIdeal.τ).loc Cert.KernelIdeal.main_arg12)) (m ((c.tc : Thread Cert.KernelIdeal.nD Cert.KernelIdeal.τ).loc Cert.KernelIdeal.main_arg13))).2.2.2.2 = (fun _ => 1#1)

def Pre_ReferenceIdeal (m : (ℓ : Loc Cert.ReferenceIdeal.nD Cert.ReferenceIdeal.τ Cert.ReferenceIdeal.sig) → Buf (Elt Ideal) ℓ) : Prop :=
  True

def Pre_ReferenceIdeal_finite [hPre_finite : Cert.Pre_finite.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6)) (m ((c.tc : Thread Cert.ReferenceIdeal.nD Cert.ReferenceIdeal.τ).loc Cert.ReferenceIdeal.main_arg7)) (m ((c.tc : Thread Cert.ReferenceIdeal.nD Cert.ReferenceIdeal.τ).loc Cert.ReferenceIdeal.main_arg8)) (m ((c.tc : Thread Cert.ReferenceIdeal.nD Cert.ReferenceIdeal.τ).loc Cert.ReferenceIdeal.main_arg9)) (m ((c.tc : Thread Cert.ReferenceIdeal.nD Cert.ReferenceIdeal.τ).loc Cert.ReferenceIdeal.main_arg10)) (m ((c.tc : Thread Cert.ReferenceIdeal.nD Cert.ReferenceIdeal.τ).loc Cert.ReferenceIdeal.main_arg11)) (m ((c.tc : Thread Cert.ReferenceIdeal.nD Cert.ReferenceIdeal.τ).loc Cert.ReferenceIdeal.main_arg12)) (m ((c.tc : Thread Cert.ReferenceIdeal.nD Cert.ReferenceIdeal.τ).loc Cert.ReferenceIdeal.main_arg13))).1 = (fun _ => 1#1)
    ∧ (Cert.Pre_finite.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6)) (m ((c.tc : Thread Cert.ReferenceIdeal.nD Cert.ReferenceIdeal.τ).loc Cert.ReferenceIdeal.main_arg7)) (m ((c.tc : Thread Cert.ReferenceIdeal.nD Cert.ReferenceIdeal.τ).loc Cert.ReferenceIdeal.main_arg8)) (m ((c.tc : Thread Cert.ReferenceIdeal.nD Cert.ReferenceIdeal.τ).loc Cert.ReferenceIdeal.main_arg9)) (m ((c.tc : Thread Cert.ReferenceIdeal.nD Cert.ReferenceIdeal.τ).loc Cert.ReferenceIdeal.main_arg10)) (m ((c.tc : Thread Cert.ReferenceIdeal.nD Cert.ReferenceIdeal.τ).loc Cert.ReferenceIdeal.main_arg11)) (m ((c.tc : Thread Cert.ReferenceIdeal.nD Cert.ReferenceIdeal.τ).loc Cert.ReferenceIdeal.main_arg12)) (m ((c.tc : Thread Cert.ReferenceIdeal.nD Cert.ReferenceIdeal.τ).loc Cert.ReferenceIdeal.main_arg13))).2.1 = (fun _ => 1#1)
    ∧ (Cert.Pre_finite.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6)) (m ((c.tc : Thread Cert.ReferenceIdeal.nD Cert.ReferenceIdeal.τ).loc Cert.ReferenceIdeal.main_arg7)) (m ((c.tc : Thread Cert.ReferenceIdeal.nD Cert.ReferenceIdeal.τ).loc Cert.ReferenceIdeal.main_arg8)) (m ((c.tc : Thread Cert.ReferenceIdeal.nD Cert.ReferenceIdeal.τ).loc Cert.ReferenceIdeal.main_arg9)) (m ((c.tc : Thread Cert.ReferenceIdeal.nD Cert.ReferenceIdeal.τ).loc Cert.ReferenceIdeal.main_arg10)) (m ((c.tc : Thread Cert.ReferenceIdeal.nD Cert.ReferenceIdeal.τ).loc Cert.ReferenceIdeal.main_arg11)) (m ((c.tc : Thread Cert.ReferenceIdeal.nD Cert.ReferenceIdeal.τ).loc Cert.ReferenceIdeal.main_arg12)) (m ((c.tc : Thread Cert.ReferenceIdeal.nD Cert.ReferenceIdeal.τ).loc Cert.ReferenceIdeal.main_arg13))).2.2.1 = (fun _ => 1#1)
    ∧ (Cert.Pre_finite.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6)) (m ((c.tc : Thread Cert.ReferenceIdeal.nD Cert.ReferenceIdeal.τ).loc Cert.ReferenceIdeal.main_arg7)) (m ((c.tc : Thread Cert.ReferenceIdeal.nD Cert.ReferenceIdeal.τ).loc Cert.ReferenceIdeal.main_arg8)) (m ((c.tc : Thread Cert.ReferenceIdeal.nD Cert.ReferenceIdeal.τ).loc Cert.ReferenceIdeal.main_arg9)) (m ((c.tc : Thread Cert.ReferenceIdeal.nD Cert.ReferenceIdeal.τ).loc Cert.ReferenceIdeal.main_arg10)) (m ((c.tc : Thread Cert.ReferenceIdeal.nD Cert.ReferenceIdeal.τ).loc Cert.ReferenceIdeal.main_arg11)) (m ((c.tc : Thread Cert.ReferenceIdeal.nD Cert.ReferenceIdeal.τ).loc Cert.ReferenceIdeal.main_arg12)) (m ((c.tc : Thread Cert.ReferenceIdeal.nD Cert.ReferenceIdeal.τ).loc Cert.ReferenceIdeal.main_arg13))).2.2.2.1 = (fun _ => 1#1)
    ∧ (Cert.Pre_finite.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6)) (m ((c.tc : Thread Cert.ReferenceIdeal.nD Cert.ReferenceIdeal.τ).loc Cert.ReferenceIdeal.main_arg7)) (m ((c.tc : Thread Cert.ReferenceIdeal.nD Cert.ReferenceIdeal.τ).loc Cert.ReferenceIdeal.main_arg8)) (m ((c.tc : Thread Cert.ReferenceIdeal.nD Cert.ReferenceIdeal.τ).loc Cert.ReferenceIdeal.main_arg9)) (m ((c.tc : Thread Cert.ReferenceIdeal.nD Cert.ReferenceIdeal.τ).loc Cert.ReferenceIdeal.main_arg10)) (m ((c.tc : Thread Cert.ReferenceIdeal.nD Cert.ReferenceIdeal.τ).loc Cert.ReferenceIdeal.main_arg11)) (m ((c.tc : Thread Cert.ReferenceIdeal.nD Cert.ReferenceIdeal.τ).loc Cert.ReferenceIdeal.main_arg12)) (m ((c.tc : Thread Cert.ReferenceIdeal.nD Cert.ReferenceIdeal.τ).loc Cert.ReferenceIdeal.main_arg13))).2.2.2.2 = (fun _ => 1#1)

def quiescent_Kernel [hKernel : Cert.Kernel.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => (∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5)
      ∧ r.2.mem ((c.tc : Thread Cert.Kernel.nD Cert.Kernel.τ).loc Cert.Kernel.main_arg6) = m ((c.tc : Thread Cert.Kernel.nD Cert.Kernel.τ).loc Cert.Kernel.main_arg6)
      ∧ r.2.mem ((c.tc : Thread Cert.Kernel.nD Cert.Kernel.τ).loc Cert.Kernel.main_arg7) = m ((c.tc : Thread Cert.Kernel.nD Cert.Kernel.τ).loc Cert.Kernel.main_arg7)
      ∧ r.2.mem ((c.tc : Thread Cert.Kernel.nD Cert.Kernel.τ).loc Cert.Kernel.main_arg8) = m ((c.tc : Thread Cert.Kernel.nD Cert.Kernel.τ).loc Cert.Kernel.main_arg8)
      ∧ r.2.mem ((c.tc : Thread Cert.Kernel.nD Cert.Kernel.τ).loc Cert.Kernel.main_arg9) = m ((c.tc : Thread Cert.Kernel.nD Cert.Kernel.τ).loc Cert.Kernel.main_arg9)
      ∧ r.2.mem ((c.tc : Thread Cert.Kernel.nD Cert.Kernel.τ).loc Cert.Kernel.main_arg10) = m ((c.tc : Thread Cert.Kernel.nD Cert.Kernel.τ).loc Cert.Kernel.main_arg10)
      ∧ r.2.mem ((c.tc : Thread Cert.Kernel.nD Cert.Kernel.τ).loc Cert.Kernel.main_arg11) = m ((c.tc : Thread Cert.Kernel.nD Cert.Kernel.τ).loc Cert.Kernel.main_arg11)
      ∧ r.2.mem ((c.tc : Thread Cert.Kernel.nD Cert.Kernel.τ).loc Cert.Kernel.main_arg12) = m ((c.tc : Thread Cert.Kernel.nD Cert.Kernel.τ).loc Cert.Kernel.main_arg12)
      ∧ r.2.mem ((c.tc : Thread Cert.Kernel.nD Cert.Kernel.τ).loc Cert.Kernel.main_arg13) = m ((c.tc : Thread Cert.Kernel.nD Cert.Kernel.τ).loc Cert.Kernel.main_arg13))
      ∧ r.2.sem = fun _ => 0)

def quiescent_KernelIdeal [hKernelIdeal : Cert.KernelIdeal.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
      ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
      ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
      ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8)
      ∧ r.2.mem ((c.tc : Thread Cert.KernelIdeal.nD Cert.KernelIdeal.τ).loc Cert.KernelIdeal.main_arg9) = m ((c.tc : Thread Cert.KernelIdeal.nD Cert.KernelIdeal.τ).loc Cert.KernelIdeal.main_arg9)
      ∧ r.2.mem ((c.tc : Thread Cert.KernelIdeal.nD Cert.KernelIdeal.τ).loc Cert.KernelIdeal.main_arg10) = m ((c.tc : Thread Cert.KernelIdeal.nD Cert.KernelIdeal.τ).loc Cert.KernelIdeal.main_arg10)
      ∧ r.2.mem ((c.tc : Thread Cert.KernelIdeal.nD Cert.KernelIdeal.τ).loc Cert.KernelIdeal.main_arg11) = m ((c.tc : Thread Cert.KernelIdeal.nD Cert.KernelIdeal.τ).loc Cert.KernelIdeal.main_arg11)
      ∧ r.2.mem ((c.tc : Thread Cert.KernelIdeal.nD Cert.KernelIdeal.τ).loc Cert.KernelIdeal.main_arg12) = m ((c.tc : Thread Cert.KernelIdeal.nD Cert.KernelIdeal.τ).loc Cert.KernelIdeal.main_arg12)
      ∧ r.2.mem ((c.tc : Thread Cert.KernelIdeal.nD Cert.KernelIdeal.τ).loc Cert.KernelIdeal.main_arg13) = m ((c.tc : Thread Cert.KernelIdeal.nD Cert.KernelIdeal.τ).loc Cert.KernelIdeal.main_arg13))
      ∧ r.2.sem = fun _ => 0)

def quiescent_KernelIdeal_pre_finite [hKernelIdeal : Cert.KernelIdeal.Facts] [hPre_finite : Cert.Pre_finite.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal_finite m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
      ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
      ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
      ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8)
      ∧ r.2.mem ((c.tc : Thread Cert.KernelIdeal.nD Cert.KernelIdeal.τ).loc Cert.KernelIdeal.main_arg9) = m ((c.tc : Thread Cert.KernelIdeal.nD Cert.KernelIdeal.τ).loc Cert.KernelIdeal.main_arg9)
      ∧ r.2.mem ((c.tc : Thread Cert.KernelIdeal.nD Cert.KernelIdeal.τ).loc Cert.KernelIdeal.main_arg10) = m ((c.tc : Thread Cert.KernelIdeal.nD Cert.KernelIdeal.τ).loc Cert.KernelIdeal.main_arg10)
      ∧ r.2.mem ((c.tc : Thread Cert.KernelIdeal.nD Cert.KernelIdeal.τ).loc Cert.KernelIdeal.main_arg11) = m ((c.tc : Thread Cert.KernelIdeal.nD Cert.KernelIdeal.τ).loc Cert.KernelIdeal.main_arg11)
      ∧ r.2.mem ((c.tc : Thread Cert.KernelIdeal.nD Cert.KernelIdeal.τ).loc Cert.KernelIdeal.main_arg12) = m ((c.tc : Thread Cert.KernelIdeal.nD Cert.KernelIdeal.τ).loc Cert.KernelIdeal.main_arg12)
      ∧ r.2.mem ((c.tc : Thread Cert.KernelIdeal.nD Cert.KernelIdeal.τ).loc Cert.KernelIdeal.main_arg13) = m ((c.tc : Thread Cert.KernelIdeal.nD Cert.KernelIdeal.τ).loc Cert.KernelIdeal.main_arg13))
      ∧ r.2.sem = fun _ => 0)

def quiescent_ReferenceIdeal [hReferenceIdeal : Cert.ReferenceIdeal.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5)
      ∧ r.2.mem ((c.tc : Thread Cert.ReferenceIdeal.nD Cert.ReferenceIdeal.τ).loc Cert.ReferenceIdeal.main_arg6) = m ((c.tc : Thread Cert.ReferenceIdeal.nD Cert.ReferenceIdeal.τ).loc Cert.ReferenceIdeal.main_arg6)
      ∧ r.2.mem ((c.tc : Thread Cert.ReferenceIdeal.nD Cert.ReferenceIdeal.τ).loc Cert.ReferenceIdeal.main_arg7) = m ((c.tc : Thread Cert.ReferenceIdeal.nD Cert.ReferenceIdeal.τ).loc Cert.ReferenceIdeal.main_arg7)
      ∧ r.2.mem ((c.tc : Thread Cert.ReferenceIdeal.nD Cert.ReferenceIdeal.τ).loc Cert.ReferenceIdeal.main_arg8) = m ((c.tc : Thread Cert.ReferenceIdeal.nD Cert.ReferenceIdeal.τ).loc Cert.ReferenceIdeal.main_arg8)
      ∧ r.2.mem ((c.tc : Thread Cert.ReferenceIdeal.nD Cert.ReferenceIdeal.τ).loc Cert.ReferenceIdeal.main_arg9) = m ((c.tc : Thread Cert.ReferenceIdeal.nD Cert.ReferenceIdeal.τ).loc Cert.ReferenceIdeal.main_arg9)
      ∧ r.2.mem ((c.tc : Thread Cert.ReferenceIdeal.nD Cert.ReferenceIdeal.τ).loc Cert.ReferenceIdeal.main_arg10) = m ((c.tc : Thread Cert.ReferenceIdeal.nD Cert.ReferenceIdeal.τ).loc Cert.ReferenceIdeal.main_arg10)
      ∧ r.2.mem ((c.tc : Thread Cert.ReferenceIdeal.nD Cert.ReferenceIdeal.τ).loc Cert.ReferenceIdeal.main_arg11) = m ((c.tc : Thread Cert.ReferenceIdeal.nD Cert.ReferenceIdeal.τ).loc Cert.ReferenceIdeal.main_arg11)
      ∧ r.2.mem ((c.tc : Thread Cert.ReferenceIdeal.nD Cert.ReferenceIdeal.τ).loc Cert.ReferenceIdeal.main_arg12) = m ((c.tc : Thread Cert.ReferenceIdeal.nD Cert.ReferenceIdeal.τ).loc Cert.ReferenceIdeal.main_arg12)
      ∧ r.2.mem ((c.tc : Thread Cert.ReferenceIdeal.nD Cert.ReferenceIdeal.τ).loc Cert.ReferenceIdeal.main_arg13) = m ((c.tc : Thread Cert.ReferenceIdeal.nD Cert.ReferenceIdeal.τ).loc Cert.ReferenceIdeal.main_arg13))
      ∧ r.2.sem = fun _ => 0)

def quiescent_ReferenceIdeal_pre_finite [hReferenceIdeal : Cert.ReferenceIdeal.Facts] [hPre_finite : Cert.Pre_finite.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal_finite m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5)
      ∧ r.2.mem ((c.tc : Thread Cert.ReferenceIdeal.nD Cert.ReferenceIdeal.τ).loc Cert.ReferenceIdeal.main_arg6) = m ((c.tc : Thread Cert.ReferenceIdeal.nD Cert.ReferenceIdeal.τ).loc Cert.ReferenceIdeal.main_arg6)
      ∧ r.2.mem ((c.tc : Thread Cert.ReferenceIdeal.nD Cert.ReferenceIdeal.τ).loc Cert.ReferenceIdeal.main_arg7) = m ((c.tc : Thread Cert.ReferenceIdeal.nD Cert.ReferenceIdeal.τ).loc Cert.ReferenceIdeal.main_arg7)
      ∧ r.2.mem ((c.tc : Thread Cert.ReferenceIdeal.nD Cert.ReferenceIdeal.τ).loc Cert.ReferenceIdeal.main_arg8) = m ((c.tc : Thread Cert.ReferenceIdeal.nD Cert.ReferenceIdeal.τ).loc Cert.ReferenceIdeal.main_arg8)
      ∧ r.2.mem ((c.tc : Thread Cert.ReferenceIdeal.nD Cert.ReferenceIdeal.τ).loc Cert.ReferenceIdeal.main_arg9) = m ((c.tc : Thread Cert.ReferenceIdeal.nD Cert.ReferenceIdeal.τ).loc Cert.ReferenceIdeal.main_arg9)
      ∧ r.2.mem ((c.tc : Thread Cert.ReferenceIdeal.nD Cert.ReferenceIdeal.τ).loc Cert.ReferenceIdeal.main_arg10) = m ((c.tc : Thread Cert.ReferenceIdeal.nD Cert.ReferenceIdeal.τ).loc Cert.ReferenceIdeal.main_arg10)
      ∧ r.2.mem ((c.tc : Thread Cert.ReferenceIdeal.nD Cert.ReferenceIdeal.τ).loc Cert.ReferenceIdeal.main_arg11) = m ((c.tc : Thread Cert.ReferenceIdeal.nD Cert.ReferenceIdeal.τ).loc Cert.ReferenceIdeal.main_arg11)
      ∧ r.2.mem ((c.tc : Thread Cert.ReferenceIdeal.nD Cert.ReferenceIdeal.τ).loc Cert.ReferenceIdeal.main_arg12) = m ((c.tc : Thread Cert.ReferenceIdeal.nD Cert.ReferenceIdeal.τ).loc Cert.ReferenceIdeal.main_arg12)
      ∧ r.2.mem ((c.tc : Thread Cert.ReferenceIdeal.nD Cert.ReferenceIdeal.τ).loc Cert.ReferenceIdeal.main_arg13) = m ((c.tc : Thread Cert.ReferenceIdeal.nD Cert.ReferenceIdeal.τ).loc Cert.ReferenceIdeal.main_arg13))
      ∧ r.2.sem = fun _ => 0)

def preserves_Kernel_KernelIdeal : Prop :=
  True

def algebraic_KernelIdeal_ReferenceIdeal_pre_finite [hKernelIdeal : Cert.KernelIdeal.Facts] [hReferenceIdeal : Cert.ReferenceIdeal.Facts] [hPre_finite : Cert.Pre_finite.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal_finite m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)
      ∧ m' ((c.tc : Thread Cert.ReferenceIdeal.nD Cert.ReferenceIdeal.τ).loc Cert.ReferenceIdeal.main_arg6) = m ((c.tc : Thread Cert.KernelIdeal.nD Cert.KernelIdeal.τ).loc Cert.KernelIdeal.main_arg6)
      ∧ m' ((c.tc : Thread Cert.ReferenceIdeal.nD Cert.ReferenceIdeal.τ).loc Cert.ReferenceIdeal.main_arg7) = m ((c.tc : Thread Cert.KernelIdeal.nD Cert.KernelIdeal.τ).loc Cert.KernelIdeal.main_arg7)
      ∧ m' ((c.tc : Thread Cert.ReferenceIdeal.nD Cert.ReferenceIdeal.τ).loc Cert.ReferenceIdeal.main_arg8) = m ((c.tc : Thread Cert.KernelIdeal.nD Cert.KernelIdeal.τ).loc Cert.KernelIdeal.main_arg8)
      ∧ m' ((c.tc : Thread Cert.ReferenceIdeal.nD Cert.ReferenceIdeal.τ).loc Cert.ReferenceIdeal.main_arg9) = m ((c.tc : Thread Cert.KernelIdeal.nD Cert.KernelIdeal.τ).loc Cert.KernelIdeal.main_arg9)
      ∧ m' ((c.tc : Thread Cert.ReferenceIdeal.nD Cert.ReferenceIdeal.τ).loc Cert.ReferenceIdeal.main_arg10) = m ((c.tc : Thread Cert.KernelIdeal.nD Cert.KernelIdeal.τ).loc Cert.KernelIdeal.main_arg10)
      ∧ m' ((c.tc : Thread Cert.ReferenceIdeal.nD Cert.ReferenceIdeal.τ).loc Cert.ReferenceIdeal.main_arg11) = m ((c.tc : Thread Cert.KernelIdeal.nD Cert.KernelIdeal.τ).loc Cert.KernelIdeal.main_arg11)
      ∧ m' ((c.tc : Thread Cert.ReferenceIdeal.nD Cert.ReferenceIdeal.τ).loc Cert.ReferenceIdeal.main_arg12) = m ((c.tc : Thread Cert.KernelIdeal.nD Cert.KernelIdeal.τ).loc Cert.KernelIdeal.main_arg12)
      ∧ m' ((c.tc : Thread Cert.ReferenceIdeal.nD Cert.ReferenceIdeal.τ).loc Cert.ReferenceIdeal.main_arg13) = m ((c.tc : Thread Cert.KernelIdeal.nD Cert.KernelIdeal.τ).loc Cert.KernelIdeal.main_arg13)) →
    ∃ (v0 : (c : Dev Cert.KernelIdeal.nD) → Buf (Elt Ideal) ((c.tc : Thread Cert.KernelIdeal.nD Cert.KernelIdeal.τ).loc Cert.KernelIdeal.main_v8)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v8) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
          ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
          ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
          ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8)
          ∧ r.2.mem ((c.tc : Thread Cert.KernelIdeal.nD Cert.KernelIdeal.τ).loc Cert.KernelIdeal.main_arg9) = m ((c.tc : Thread Cert.KernelIdeal.nD Cert.KernelIdeal.τ).loc Cert.KernelIdeal.main_arg9)
          ∧ r.2.mem ((c.tc : Thread Cert.KernelIdeal.nD Cert.KernelIdeal.τ).loc Cert.KernelIdeal.main_arg10) = m ((c.tc : Thread Cert.KernelIdeal.nD Cert.KernelIdeal.τ).loc Cert.KernelIdeal.main_arg10)
          ∧ r.2.mem ((c.tc : Thread Cert.KernelIdeal.nD Cert.KernelIdeal.τ).loc Cert.KernelIdeal.main_arg11) = m ((c.tc : Thread Cert.KernelIdeal.nD Cert.KernelIdeal.τ).loc Cert.KernelIdeal.main_arg11)
          ∧ r.2.mem ((c.tc : Thread Cert.KernelIdeal.nD Cert.KernelIdeal.τ).loc Cert.KernelIdeal.main_arg12) = m ((c.tc : Thread Cert.KernelIdeal.nD Cert.KernelIdeal.τ).loc Cert.KernelIdeal.main_arg12)
          ∧ r.2.mem ((c.tc : Thread Cert.KernelIdeal.nD Cert.KernelIdeal.τ).loc Cert.KernelIdeal.main_arg13) = m ((c.tc : Thread Cert.KernelIdeal.nD Cert.KernelIdeal.τ).loc Cert.KernelIdeal.main_arg13))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v260) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
          ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5)
          ∧ r.2.mem ((c.tc : Thread Cert.ReferenceIdeal.nD Cert.ReferenceIdeal.τ).loc Cert.ReferenceIdeal.main_arg6) = m' ((c.tc : Thread Cert.ReferenceIdeal.nD Cert.ReferenceIdeal.τ).loc Cert.ReferenceIdeal.main_arg6)
          ∧ r.2.mem ((c.tc : Thread Cert.ReferenceIdeal.nD Cert.ReferenceIdeal.τ).loc Cert.ReferenceIdeal.main_arg7) = m' ((c.tc : Thread Cert.ReferenceIdeal.nD Cert.ReferenceIdeal.τ).loc Cert.ReferenceIdeal.main_arg7)
          ∧ r.2.mem ((c.tc : Thread Cert.ReferenceIdeal.nD Cert.ReferenceIdeal.τ).loc Cert.ReferenceIdeal.main_arg8) = m' ((c.tc : Thread Cert.ReferenceIdeal.nD Cert.ReferenceIdeal.τ).loc Cert.ReferenceIdeal.main_arg8)
          ∧ r.2.mem ((c.tc : Thread Cert.ReferenceIdeal.nD Cert.ReferenceIdeal.τ).loc Cert.ReferenceIdeal.main_arg9) = m' ((c.tc : Thread Cert.ReferenceIdeal.nD Cert.ReferenceIdeal.τ).loc Cert.ReferenceIdeal.main_arg9)
          ∧ r.2.mem ((c.tc : Thread Cert.ReferenceIdeal.nD Cert.ReferenceIdeal.τ).loc Cert.ReferenceIdeal.main_arg10) = m' ((c.tc : Thread Cert.ReferenceIdeal.nD Cert.ReferenceIdeal.τ).loc Cert.ReferenceIdeal.main_arg10)
          ∧ r.2.mem ((c.tc : Thread Cert.ReferenceIdeal.nD Cert.ReferenceIdeal.τ).loc Cert.ReferenceIdeal.main_arg11) = m' ((c.tc : Thread Cert.ReferenceIdeal.nD Cert.ReferenceIdeal.τ).loc Cert.ReferenceIdeal.main_arg11)
          ∧ r.2.mem ((c.tc : Thread Cert.ReferenceIdeal.nD Cert.ReferenceIdeal.τ).loc Cert.ReferenceIdeal.main_arg12) = m' ((c.tc : Thread Cert.ReferenceIdeal.nD Cert.ReferenceIdeal.τ).loc Cert.ReferenceIdeal.main_arg12)
          ∧ r.2.mem ((c.tc : Thread Cert.ReferenceIdeal.nD Cert.ReferenceIdeal.τ).loc Cert.ReferenceIdeal.main_arg13) = m' ((c.tc : Thread Cert.ReferenceIdeal.nD Cert.ReferenceIdeal.τ).loc Cert.ReferenceIdeal.main_arg13))

def Claim : Prop :=
  ∃ (hKernel : Cert.Kernel.Facts) (hKernelIdeal : Cert.KernelIdeal.Facts) (hReferenceIdeal : Cert.ReferenceIdeal.Facts) (hPre_finite : Cert.Pre_finite.Facts),
    quiescent_Kernel (hKernel := hKernel)
    ∧ quiescent_KernelIdeal (hKernelIdeal := hKernelIdeal)
    ∧ quiescent_KernelIdeal_pre_finite (hKernelIdeal := hKernelIdeal) (hPre_finite := hPre_finite)
    ∧ quiescent_ReferenceIdeal (hReferenceIdeal := hReferenceIdeal)
    ∧ quiescent_ReferenceIdeal_pre_finite (hReferenceIdeal := hReferenceIdeal) (hPre_finite := hPre_finite)
    ∧ preserves_Kernel_KernelIdeal
    ∧ algebraic_KernelIdeal_ReferenceIdeal_pre_finite (hKernelIdeal := hKernelIdeal) (hReferenceIdeal := hReferenceIdeal) (hPre_finite := hPre_finite)
-- ==== Pre_finite.lean ====
abbrev S4x64x768 : Shape := ⟨3, ![4, 64, 768]⟩
abbrev S4x1024x768 : Shape := ⟨3, ![4, 1024, 768]⟩
abbrev S768x512 : Shape := ⟨2, ![768, 512]⟩
abbrev S768x768 : Shape := ⟨2, ![768, 768]⟩
abbrev S768 : Shape := ⟨1, ![768]⟩
abbrev S768x128 : Shape := ⟨2, ![768, 128]⟩
abbrev S128 : Shape := ⟨1, ![128]⟩
abbrev S768x64 : Shape := ⟨2, ![768, 64]⟩
abbrev S64 : Shape := ⟨1, ![64]⟩
abbrev S512x768 : Shape := ⟨2, ![512, 768]⟩
abbrev S_ : Shape := ⟨0, ![]⟩

class Facts : Prop where
  bcast_S_S4x64x768 : S_.BroadcastsInDim S4x64x768 (![] : Fin 0 → Fin S4x64x768.rank)
  bcast_S_S768x768 : S_.BroadcastsInDim S768x768 (![] : Fin 0 → Fin S768x768.rank)
  bcast_S_S768 : S_.BroadcastsInDim S768 (![] : Fin 0 → Fin S768.rank)
  bcast_S_S768x64 : S_.BroadcastsInDim S768x64 (![] : Fin 0 → Fin S768x64.rank)
  bcast_S_S64 : S_.BroadcastsInDim S64 (![] : Fin 0 → Fin S64.rank)

variable [Facts]

def fn {F : FTy → Type} [FloatOps F] (main_arg0 : FVec F S4x64x768 .f32) (main_arg1 : FVec F S4x1024x768 .f32) (main_arg2 : FVec F S768x512 .f32) (main_arg3 : FVec F S768x512 .f32) (main_arg4 : FVec F S768x768 .f32) (main_arg5 : FVec F S768 .f32) (main_arg6 : FVec F S768x128 .f32) (main_arg7 : FVec F S128 .f32) (main_arg8 : FVec F S768x768 .f32) (main_arg9 : FVec F S768 .f32) (main_arg10 : FVec F S768x64 .f32) (main_arg11 : FVec F S64 .f32) (main_arg12 : FVec F S512x768 .f32) (main_arg13 : FVec F S768 .f32) : IVec S4x64x768 1 × IVec S768x768 1 × IVec S768 1 × IVec S768x64 1 × IVec S64 1 :=
  let main_v0 : FVec F S4x64x768 .f32 := Host.absf main_arg0
  let main_cst : FVec F S_ .f32 := constant S_ .f32 0x7F800000#32
  let main_v1 : FVec F S4x64x768 .f32 := broadcastInDim S4x64x768 ![] bcast_S_S4x64x768 main_cst
  let main_v2 : IVec S4x64x768 1 := cmpf .olt main_v0 main_v1
  let main_v3 : FVec F S768x768 .f32 := Host.absf main_arg8
  let main_cst_0 : FVec F S_ .f32 := constant S_ .f32 0x7F800000#32
  let main_v4 : FVec F S768x768 .f32 := broadcastInDim S768x768 ![] bcast_S_S768x768 main_cst_0
  let main_v5 : IVec S768x768 1 := cmpf .olt main_v3 main_v4
  let main_v6 : FVec F S768 .f32 := Host.absf main_arg9
  let main_cst_1 : FVec F S_ .f32 := constant S_ .f32 0x7F800000#32
  let main_v7 : FVec F S768 .f32 := broadcastInDim S768 ![] bcast_S_S768 main_cst_1
  let main_v8 : IVec S768 1 := cmpf .olt main_v6 main_v7
  let main_v9 : FVec F S768x64 .f32 := Host.absf main_arg10
  let main_cst_2 : FVec F S_ .f32 := constant S_ .f32 0x7F800000#32
  let main_v10 : FVec F S768x64 .f32 := broadcastInDim S768x64 ![] bcast_S_S768x64 main_cst_2
  let main_v11 : IVec S768x64 1 := cmpf .olt main_v9 main_v10
  let main_v12 : FVec F S64 .f32 := Host.absf main_arg11
  let main_cst_3 : FVec F S_ .f32 := constant S_ .f32 0x7F800000#32
  let main_v13 : FVec F S64 .f32 := broadcastInDim S64 ![] bcast_S_S64 main_cst_3
  let main_v14 : IVec S64 1 := cmpf .olt main_v12 main_v13
  (main_v2, main_v5, main_v8, main_v11, main_v14)
-- ==== Kernel.lean ====
abbrev S4x64x768 : Shape := ⟨3, ![4, 64, 768]⟩
abbrev S4x1024x768 : Shape := ⟨3, ![4, 1024, 768]⟩
abbrev S768x512 : Shape := ⟨2, ![768, 512]⟩
abbrev S768x768 : Shape := ⟨2, ![768, 768]⟩
abbrev S768 : Shape := ⟨1, ![768]⟩
abbrev S768x128 : Shape := ⟨2, ![768, 128]⟩
abbrev S128 : Shape := ⟨1, ![128]⟩
abbrev S768x64 : Shape := ⟨2, ![768, 64]⟩
abbrev S64 : Shape := ⟨1, ![64]⟩
abbrev S512x768 : Shape := ⟨2, ![512, 768]⟩
abbrev S4x16x4x768 : Shape := ⟨4, ![4, 16, 4, 768]⟩
abbrev S4x4x16x768 : Shape := ⟨4, ![4, 4, 16, 768]⟩
abbrev S1x768 : Shape := ⟨2, ![1, 768]⟩
abbrev S1x128 : Shape := ⟨2, ![1, 128]⟩
abbrev S1x64 : Shape := ⟨2, ![1, 64]⟩
abbrev S1x64x768 : Shape := ⟨3, ![1, 64, 768]⟩
abbrev S1x1024x768 : Shape := ⟨3, ![1, 1024, 768]⟩
abbrev S64x768 : Shape := ⟨2, ![64, 768]⟩
abbrev S1024x768 : Shape := ⟨2, ![1024, 768]⟩
abbrev S1024x512 : Shape := ⟨2, ![1024, 512]⟩
abbrev S64x64 : Shape := ⟨2, ![64, 64]⟩
abbrev S64x128 : Shape := ⟨2, ![64, 128]⟩
abbrev S1x1024 : Shape := ⟨2, ![1, 1024]⟩
abbrev S64x1 : Shape := ⟨2, ![64, 1]⟩
abbrev S64x1024 : Shape := ⟨2, ![64, 1024]⟩
abbrev S1024x64 : Shape := ⟨2, ![1024, 64]⟩
abbrev S64x512 : Shape := ⟨2, ![64, 512]⟩

abbrev nBuf : Space → Nat
  | .hbm => 23
  | .vmem => 19
  | .smem => 0
  | _ => 0

abbrev bufTy : (tb : Table) → Fin (tcTables nBuf tb) → BufTy
  | .hbm, ⟨0, _⟩ => ⟨S4x64x768, .f32⟩
  | .hbm, ⟨1, _⟩ => ⟨S4x1024x768, .f32⟩
  | .hbm, ⟨2, _⟩ => ⟨S768x512, .f32⟩
  | .hbm, ⟨3, _⟩ => ⟨S768x512, .f32⟩
  | .hbm, ⟨4, _⟩ => ⟨S768x768, .f32⟩
  | .hbm, ⟨5, _⟩ => ⟨S768, .f32⟩
  | .hbm, ⟨6, _⟩ => ⟨S768x128, .f32⟩
  | .hbm, ⟨7, _⟩ => ⟨S128, .f32⟩
  | .hbm, ⟨8, _⟩ => ⟨S768x768, .f32⟩
  | .hbm, ⟨9, _⟩ => ⟨S768, .f32⟩
  | .hbm, ⟨10, _⟩ => ⟨S768x64, .f32⟩
  | .hbm, ⟨11, _⟩ => ⟨S64, .f32⟩
  | .hbm, ⟨12, _⟩ => ⟨S512x768, .f32⟩
  | .hbm, ⟨13, _⟩ => ⟨S768, .f32⟩
  | .hbm, ⟨14, _⟩ => ⟨S4x16x4x768, .f32⟩
  | .hbm, ⟨15, _⟩ => ⟨S4x4x16x768, .f32⟩
  | .hbm, ⟨16, _⟩ => ⟨S4x64x768, .f32⟩
  | .hbm, ⟨17, _⟩ => ⟨S1x768, .f32⟩
  | .hbm, ⟨18, _⟩ => ⟨S1x128, .f32⟩
  | .hbm, ⟨19, _⟩ => ⟨S1x768, .f32⟩
  | .hbm, ⟨20, _⟩ => ⟨S1x64, .f32⟩
  | .hbm, ⟨21, _⟩ => ⟨S1x768, .f32⟩
  | .hbm, ⟨22, _⟩ => ⟨S4x64x768, .f32⟩
  | .local _ .vmem, ⟨0, _⟩ => ⟨S1x64x768, .f32⟩
  | .local _ .vmem, ⟨1, _⟩ => ⟨S1x64x768, .f32⟩
  | .local _ .vmem, ⟨2, _⟩ => ⟨S1x64x768, .f32⟩
  | .local _ .vmem, ⟨3, _⟩ => ⟨S1x64x768, .f32⟩
  | .local _ .vmem, ⟨4, _⟩ => ⟨S1x1024x768, .f32⟩
  | .local _ .vmem, ⟨5, _⟩ => ⟨S1x1024x768, .f32⟩
  | .local _ .vmem, ⟨6, _⟩ => ⟨S768x512, .f32⟩
  | .local _ .vmem, ⟨7, _⟩ => ⟨S768x768, .f32⟩
  | .local _ .vmem, ⟨8, _⟩ => ⟨S1x768, .f32⟩
  | .local _ .vmem, ⟨9, _⟩ => ⟨S768x128, .f32⟩
  | .local _ .vmem, ⟨10, _⟩ => ⟨S1x128, .f32⟩
  | .local _ .vmem, ⟨11, _⟩ => ⟨S768x768, .f32⟩
  | .local _ .vmem, ⟨12, _⟩ => ⟨S1x768, .f32⟩
  | .local _ .vmem, ⟨13, _⟩ => ⟨S768x64, .f32⟩
  | .local _ .vmem, ⟨14, _⟩ => ⟨S1x64, .f32⟩
  | .local _ .vmem, ⟨15, _⟩ => ⟨S512x768, .f32⟩
  | .local _ .vmem, ⟨16, _⟩ => ⟨S1x768, .f32⟩
  | .local _ .vmem, ⟨17, _⟩ => ⟨S1x64x768, .f32⟩
  | .local _ .vmem, ⟨18, _⟩ => ⟨S1x64x768, .f32⟩
  | _, _ => ⟨S4x64x768, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | _, _ => false

abbrev semScoped : Fin 0 → Bool
  | ⟨_, h⟩ => absurd h (Nat.not_lt_zero _)

abbrev dmaSemScoped : Fin 19 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | _ => false

abbrev sig : RefSig :=
  ofTc nBuf bufTy 0 19 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_arg11 : Ref sig .tc := ⟨.hbm, 11, rfl⟩
abbrev main_arg12 : Ref sig .tc := ⟨.hbm, 12, rfl⟩
abbrev main_arg13 : Ref sig .tc := ⟨.hbm, 13, rfl⟩
abbrev main_v0 : Ref sig .tc := ⟨.hbm, 14, rfl⟩
abbrev main_v1 : Ref sig .tc := ⟨.hbm, 15, rfl⟩
abbrev main_v2 : Ref sig .tc := ⟨.hbm, 16, rfl⟩
abbrev main_v3 : Ref sig .tc := ⟨.hbm, 17, rfl⟩
abbrev main_v4 : Ref sig .tc := ⟨.hbm, 18, rfl⟩
abbrev main_v5 : Ref sig .tc := ⟨.hbm, 19, rfl⟩
abbrev main_v6 : Ref sig .tc := ⟨.hbm, 20, rfl⟩
abbrev main_v7 : Ref sig .tc := ⟨.hbm, 21, rfl⟩
abbrev main_v8 : Ref sig .tc := ⟨.hbm, 22, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg4_0 : Ref sig .tc := ⟨.vmem, 7, rfl⟩
abbrev cc0_stg5_0 : Ref sig .tc := ⟨.vmem, 8, rfl⟩
abbrev cc0_stg6_0 : Ref sig .tc := ⟨.vmem, 9, rfl⟩
abbrev cc0_stg7_0 : Ref sig .tc := ⟨.vmem, 10, rfl⟩
abbrev cc0_stg8_0 : Ref sig .tc := ⟨.vmem, 11, rfl⟩
abbrev cc0_stg9_0 : Ref sig .tc := ⟨.vmem, 12, rfl⟩
abbrev cc0_stg10_0 : Ref sig .tc := ⟨.vmem, 13, rfl⟩
abbrev cc0_stg11_0 : Ref sig .tc := ⟨.vmem, 14, rfl⟩
abbrev cc0_stg12_0 : Ref sig .tc := ⟨.vmem, 15, rfl⟩
abbrev cc0_stg13_0 : Ref sig .tc := ⟨.vmem, 16, rfl⟩
abbrev cc0_stg14_0 : Ref sig .tc := ⟨.vmem, 17, rfl⟩
abbrev cc0_stg14_1 : Ref sig .tc := ⟨.vmem, 18, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem4_0 : DmaSem sig := 7
abbrev cc0_sem5_0 : DmaSem sig := 8
abbrev cc0_sem6_0 : DmaSem sig := 9
abbrev cc0_sem7_0 : DmaSem sig := 10
abbrev cc0_sem8_0 : DmaSem sig := 11
abbrev cc0_sem9_0 : DmaSem sig := 12
abbrev cc0_sem10_0 : DmaSem sig := 13
abbrev cc0_sem11_0 : DmaSem sig := 14
abbrev cc0_sem12_0 : DmaSem sig := 15
abbrev cc0_sem13_0 : DmaSem sig := 16
abbrev cc0_sem14_0 : DmaSem sig := 17
abbrev cc0_sem14_1 : DmaSem sig := 18

abbrev nD : Nat := 1
abbrev τ : Topo := Topo.v7x

variable {F : FTy → Type} [FloatOps F]

abbrev grid0 : Pipeline.Grid := ⟨1, ![4], ![false]⟩

def cc0_transform_0 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![arg0.toNat, c0_i32.toNat, c0_i32_0.toNat]

def cc0_transform_1 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![arg0.toNat, c0_i32.toNat, c0_i32_0.toNat]

def cc0_transform_2 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![arg0.toNat, c0_i32.toNat, c0_i32_0.toNat]

def cc0_transform_3 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_5 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_6 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_7 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_8 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_9 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_10 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_11 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_12 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_13 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_14 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![arg0.toNat, c0_i32.toNat, c0_i32_0.toNat]

abbrev stage0_0 : Fin 2 → Memref sig .tc .vmem S1x64x768 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S1x64x768 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S1x1024x768 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 1 → Memref sig .tc .vmem S768x512 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]

abbrev stage0_4 : Fin 1 → Memref sig .tc .vmem S768x768 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false]

abbrev stage0_5 : Fin 1 → Memref sig .tc .vmem S1x768 .f32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![false]

abbrev stage0_6 : Fin 1 → Memref sig .tc .vmem S768x128 .f32 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))
abbrev reads0_6 : Fin grid0.rank → Bool := ![false]

abbrev stage0_7 : Fin 1 → Memref sig .tc .vmem S1x128 .f32 := fun | 0 => Memref.whole cc0_stg7_0 | ⟨_ + 1, h⟩ => absurd h (Nat.not_lt.2 (Nat.le_add_left _ _))
abbrev sem0_7 : Fin 1 → DmaSem sig := fun | 0 => cc0_sem7_0 | ⟨_ + 1, h⟩ => absurd h (Nat.not_lt.2 (Nat.le_add_left _ _))
abbrev reads0_7 : Fin grid0.rank → Bool := ![false]

abbrev stage0_8 : Fin 1 → Memref sig .tc .vmem S768x768 .f32 := fun | 0 => Memref.whole cc0_stg8_0 | ⟨_ + 1, h⟩ => absurd h (Nat.not_lt.2 (Nat.le_add_left _ _))
abbrev sem0_8 : Fin 1 → DmaSem sig := fun | 0 => cc0_sem8_0 | ⟨_ + 1, h⟩ => absurd h (Nat.not_lt.2 (Nat.le_add_left _ _))
abbrev reads0_8 : Fin grid0.rank → Bool := ![false]

abbrev stage0_9 : Fin 1 → Memref sig .tc .vmem S1x768 .f32 := fun | 0 => Memref.whole cc0_stg9_0 | ⟨_ + 1, h⟩ => absurd h (Nat.not_lt.2 (Nat.le_add_left _ _))
abbrev sem0_9 : Fin 1 → DmaSem sig := fun | 0 => cc0_sem9_0 | ⟨_ + 1, h⟩ => absurd h (Nat.not_lt.2 (Nat.le_add_left _ _))
abbrev reads0_9 : Fin grid0.rank → Bool := ![false]

abbrev stage0_10 : Fin 1 → Memref sig .tc .vmem S768x64 .f32 := fun | 0 => Memref.whole cc0_stg10_0 | ⟨_ + 1, h⟩ => absurd h (Nat.not_lt.2 (Nat.le_add_left _ _))
abbrev sem0_10 : Fin 1 → DmaSem sig := fun | 0 => cc0_sem10_0 | ⟨_ + 1, h⟩ => absurd h (Nat.not_lt.2 (Nat.le_add_left _ _))
abbrev reads0_10 : Fin grid0.rank → Bool := ![false]

abbrev stage0_11 : Fin 1 → Memref sig .tc .vmem S1x64 .f32 := fun | 0 => Memref.whole cc0_stg11_0 | ⟨_ + 1, h⟩ => absurd h (Nat.not_lt.2 (Nat.le_add_left _ _))
abbrev sem0_11 : Fin 1 → DmaSem sig := fun | 0 => cc0_sem11_0 | ⟨_ + 1, h⟩ => absurd h (Nat.not_lt.2 (Nat.le_add_left _ _))
abbrev reads0_11 : Fin grid0.rank → Bool := ![false]

abbrev stage0_12 : Fin 1 → Memref sig .tc .vmem S512x768 .f32 := fun | 0 => Memref.whole cc0_stg12_0 | ⟨_ + 1, h⟩ => absurd h (Nat.not_lt.2 (Nat.le_add_left _ _))
abbrev sem0_12 : Fin 1 → DmaSem sig := fun | 0 => cc0_sem12_0 | ⟨_ + 1, h⟩ => absurd h (Nat.not_lt.2 (Nat.le_add_left _ _))
abbrev reads0_12 : Fin grid0.rank → Bool := ![false]

abbrev stage0_13 : Fin 1 → Memref sig .tc .vmem S1x768 .f32 := fun | 0 => Memref.whole cc0_stg13_0 | ⟨_ + 1, h⟩ => absurd h (Nat.not_lt.2 (Nat.le_add_left _ _))
abbrev sem0_13 : Fin 1 → DmaSem sig := fun | 0 => cc0_sem13_0 | ⟨_ + 1, h⟩ => absurd h (Nat.not_lt.2 (Nat.le_add_left _ _))
abbrev reads0_13 : Fin grid0.rank → Bool := ![false]

abbrev stage0_14 : Fin 2 → Memref sig .tc .vmem S1x64x768 .f32 := fun | 0 => Memref.whole cc0_stg14_0 | 1 => Memref.whole cc0_stg14_1 | ⟨_ + 2, h⟩ => absurd h (Nat.not_lt.2 (Nat.le_add_left _ _))
abbrev sem0_14 : Fin 2 → DmaSem sig := fun | 0 => cc0_sem14_0 | 1 => cc0_sem14_1 | ⟨_ + 2, h⟩ => absurd h (Nat.not_lt.2 (Nat.le_add_left _ _))
abbrev reads0_14 : Fin grid0.rank → Bool := ![true]
-- ==== ReferenceIdeal.lean ====
abbrev S4x64x768 : Shape := ⟨3, ![4, 64, 768]⟩
abbrev S4x1024x768 : Shape := ⟨3, ![4, 1024, 768]⟩
abbrev S768x512 : Shape := ⟨2, ![768, 512]⟩
abbrev S768x768 : Shape := ⟨2, ![768, 768]⟩
abbrev S768 : Shape := ⟨1, ![768]⟩
abbrev S768x128 : Shape := ⟨2, ![768, 128]⟩
abbrev S128 : Shape := ⟨1, ![128]⟩
abbrev S768x64 : Shape := ⟨2, ![768, 64]⟩
abbrev S64 : Shape := ⟨1, ![64]⟩
abbrev S512x768 : Shape := ⟨2, ![512, 768]⟩
abbrev S4x1024x512 : Shape := ⟨3, ![4, 1024, 512]⟩
abbrev S4x32x32x8x64 : Shape := ⟨5, ![4, 32, 32, 8, 64]⟩
abbrev S4x8x64x32x32 : Shape := ⟨5, ![4, 8, 64, 32, 32]⟩
abbrev S32x64x32x32 : Shape := ⟨4, ![32, 64, 32, 32]⟩
abbrev S1x1x768 : Shape := ⟨3, ![1, 1, 768]⟩
abbrev S_ : Shape := ⟨0, ![]⟩
abbrev S4x64x128 : Shape := ⟨3, ![4, 64, 128]⟩
abbrev S1x1x128 : Shape := ⟨3, ![1, 1, 128]⟩
abbrev S4x64x8x8x2 : Shape := ⟨5, ![4, 64, 8, 8, 2]⟩
abbrev S64x32x8x2 : Shape := ⟨4, ![64, 32, 8, 2]⟩
abbrev S4x64x64 : Shape := ⟨3, ![4, 64, 64]⟩
abbrev S1x1x64 : Shape := ⟨3, ![1, 1, 64]⟩
abbrev S4x64x8x8 : Shape := ⟨4, ![4, 64, 8, 8]⟩
abbrev S4x64x8 : Shape := ⟨3, ![4, 64, 8]⟩
abbrev S4x64x8x1 : Shape := ⟨4, ![4, 64, 8, 1]⟩
abbrev S64x32x8x1 : Shape := ⟨4, ![64, 32, 8, 1]⟩
abbrev S64x32x8 : Shape := ⟨3, ![64, 32, 8]⟩
abbrev S32 : Shape := ⟨1, ![32]⟩
abbrev S1x32x1 : Shape := ⟨3, ![1, 32, 1]⟩
abbrev S64x32x8x3 : Shape := ⟨4, ![64, 32, 8, 3]⟩
abbrev S64x32x8x64 : Shape := ⟨4, ![64, 32, 8, 64]⟩
abbrev S64x4x8x8x64 : Shape := ⟨5, ![64, 4, 8, 8, 64]⟩
abbrev S4x64x8x8x64 : Shape := ⟨5, ![4, 64, 8, 8, 64]⟩
abbrev S4x64x8x8x1 : Shape := ⟨5, ![4, 64, 8, 8, 1]⟩
abbrev S4x64x8x64 : Shape := ⟨4, ![4, 64, 8, 64]⟩
abbrev S4x64x512 : Shape := ⟨3, ![4, 64, 512]⟩

abbrev nBuf : Space → Nat
  | .hbm => 389
  | .vmem => 0
  | .smem => 0
  | _ => 0

abbrev hbmTy0_0 (i : Nat) : BufTy := match i % 128 with
  | 0 => ⟨S4x64x768, .f32⟩
  | 1 => ⟨S4x1024x768, .f32⟩
  | 2 => ⟨S768x512, .f32⟩
  | 3 => ⟨S768x512, .f32⟩
  | 4 => ⟨S768x768, .f32⟩
  | 5 => ⟨S768, .f32⟩
  | 6 => ⟨S768x128, .f32⟩
  | 7 => ⟨S128, .f32⟩
  | 8 => ⟨S768x768, .f32⟩
  | 9 => ⟨S768, .f32⟩
  | 10 => ⟨S768x64, .f32⟩
  | 11 => ⟨S64, .f32⟩
  | 12 => ⟨S512x768, .f32⟩
  | 13 => ⟨S768, .f32⟩
  | 14 => ⟨S4x1024x512, .f32⟩
  | 15 => ⟨S4x32x32x8x64, .f32⟩
  | 16 => ⟨S4x8x64x32x32, .f32⟩
  | 17 => ⟨S32x64x32x32, .f32⟩
  | 18 => ⟨S4x64x768, .f32⟩
  | 19 => ⟨S1x1x768, .f32⟩
  | 20 => ⟨S4x64x768, .f32⟩
  | 21 => ⟨S4x64x768, .f32⟩
  | 22 => ⟨S_, .f32⟩
  | 23 => ⟨S4x64x768, .f32⟩
  | 24 => ⟨S4x64x768, .f32⟩
  | 25 => ⟨S4x64x768, .f32⟩
  | 26 => ⟨S_, .f32⟩
  | 27 => ⟨S4x64x768, .f32⟩
  | 28 => ⟨S4x64x768, .f32⟩
  | 29 => ⟨S4x64x768, .f32⟩
  | 30 => ⟨S4x64x768, .f32⟩
  | 31 => ⟨S4x64x128, .f32⟩
  | 32 => ⟨S1x1x128, .f32⟩
  | 33 => ⟨S4x64x128, .f32⟩
  | 34 => ⟨S4x64x128, .f32⟩
  | 35 => ⟨S4x64x128, .f32⟩
  | 36 => ⟨S4x64x8x8x2, .f32⟩
  | 37 => ⟨S64x32x8x2, .f32⟩
  | 38 => ⟨S4x64x768, .f32⟩
  | 39 => ⟨S1x1x768, .f32⟩
  | 40 => ⟨S4x64x768, .f32⟩
  | 41 => ⟨S4x64x768, .f32⟩
  | 42 => ⟨S_, .f32⟩
  | 43 => ⟨S4x64x768, .f32⟩
  | 44 => ⟨S4x64x768, .f32⟩
  | 45 => ⟨S4x64x768, .f32⟩
  | 46 => ⟨S_, .f32⟩
  | 47 => ⟨S4x64x768, .f32⟩
  | 48 => ⟨S4x64x768, .f32⟩
  | 49 => ⟨S4x64x768, .f32⟩
  | 50 => ⟨S4x64x768, .f32⟩
  | 51 => ⟨S4x64x64, .f32⟩
  | 52 => ⟨S1x1x64, .f32⟩
  | 53 => ⟨S4x64x64, .f32⟩
  | 54 => ⟨S4x64x64, .f32⟩
  | 55 => ⟨S4x64x8x8, .f32⟩
  | 56 => ⟨S_, .f32⟩
  | 57 => ⟨S4x64x8, .f32⟩
  | 58 => ⟨S_, .f32⟩
  | 59 => ⟨S4x64x8, .f32⟩
  | 60 => ⟨S4x64x8, .f32⟩
  | 61 => ⟨S4x64x8x1, .f32⟩
  | 62 => ⟨S4x64x8x8, .f32⟩
  | 63 => ⟨S4x64x8x8, .f32⟩
  | 64 => ⟨S4x64x8x8, .f32⟩
  | 65 => ⟨S_, .f32⟩
  | 66 => ⟨S4x64x8, .f32⟩
  | 67 => ⟨S4x64x8x1, .f32⟩
  | 68 => ⟨S4x64x8x8, .f32⟩
  | 69 => ⟨S4x64x8x8, .f32⟩
  | 70 => ⟨S64x32x8x1, .f32⟩
  | 71 => ⟨S64x32x8, .f32⟩
  | 72 => ⟨S64x32x8x1, .f32⟩
  | 73 => ⟨S64x32x8, .f32⟩
  | 74 => ⟨S_, .f32⟩
  | 75 => ⟨S64x32x8, .f32⟩
  | 76 => ⟨S64x32x8, .f32⟩
  | 77 => ⟨S_, .f32⟩
  | 78 => ⟨S64x32x8, .f32⟩
  | 79 => ⟨S64x32x8, .f32⟩
  | 80 => ⟨S_, .f32⟩
  | 81 => ⟨S64x32x8, .f32⟩
  | 82 => ⟨S64x32x8, .f32⟩
  | 83 => ⟨S_, .f32⟩
  | 84 => ⟨S64x32x8, .f32⟩
  | 85 => ⟨S64x32x8, .f32⟩
  | 86 => ⟨S_, .f32⟩
  | 87 => ⟨S64x32x8, .f32⟩
  | 88 => ⟨S64x32x8, .f32⟩
  | 89 => ⟨S_, .f32⟩
  | 90 => ⟨S64x32x8, .f32⟩
  | 91 => ⟨S64x32x8, .f32⟩
  | 92 => ⟨S64x32x8, .f32⟩
  | 93 => ⟨S64x32x8, .f32⟩
  | 94 => ⟨S_, .f32⟩
  | 95 => ⟨S64x32x8, .f32⟩
  | 96 => ⟨S64x32x8, .f32⟩
  | 97 => ⟨S_, .f32⟩
  | 98 => ⟨S64x32x8, .f32⟩
  | 99 => ⟨S64x32x8, .f32⟩
  | 100 => ⟨S64x32x8, .f32⟩
  | 101 => ⟨S_, .f32⟩
  | 102 => ⟨S64x32x8, .f32⟩
  | 103 => ⟨S64x32x8, .f32⟩
  | 104 => ⟨S64x32x8, .f32⟩
  | 105 => ⟨S_, .f32⟩
  | 106 => ⟨S64x32x8, .f32⟩
  | 107 => ⟨S64x32x8, .f32⟩
  | 108 => ⟨S32, .i32⟩
  | 109 => ⟨S1x32x1, .i32⟩
  | 110 => ⟨S64x32x8, .f32⟩
  | 111 => ⟨S_, .f32⟩
  | 112 => ⟨S64x32x8, .f32⟩
  | 113 => ⟨S64x32x8, .i1⟩
  | 114 => ⟨S_, .f32⟩
  | 115 => ⟨S64x32x8, .f32⟩
  | 116 => ⟨S64x32x8, .i1⟩
  | 117 => ⟨S64x32x8, .i1⟩
  | 118 => ⟨S_, .f32⟩
  | 119 => ⟨S64x32x8, .f32⟩
  | 120 => ⟨S64x32x8, .i1⟩
  | 121 => ⟨S64x32x8, .i1⟩
  | 122 => ⟨S_, .f32⟩
  | 123 => ⟨S64x32x8, .f32⟩
  | 124 => ⟨S64x32x8, .i1⟩
  | 125 => ⟨S64x32x8, .i1⟩
  | 126 => ⟨S_, .i32⟩
  | 127 => ⟨S_, .i32⟩
  | _ => ⟨S4x64x768, .f32⟩

abbrev hbmTy0_1 (i : Nat) : BufTy := match i % 128 with
  | 0 => ⟨S_, .f32⟩
  | 1 => ⟨S64x32x8, .f32⟩
  | 2 => ⟨S64x32x8, .f32⟩
  | 3 => ⟨S_, .f32⟩
  | 4 => ⟨S64x32x8, .f32⟩
  | 5 => ⟨S64x32x8, .f32⟩
  | 6 => ⟨S64x32x8, .i32⟩
  | 7 => ⟨S_, .i32⟩
  | 8 => ⟨S_, .i32⟩
  | 9 => ⟨S_, .f32⟩
  | 10 => ⟨S64x32x8, .f32⟩
  | 11 => ⟨S64x32x8, .f32⟩
  | 12 => ⟨S_, .f32⟩
  | 13 => ⟨S64x32x8, .f32⟩
  | 14 => ⟨S64x32x8, .f32⟩
  | 15 => ⟨S64x32x8, .i32⟩
  | 16 => ⟨S_, .i32⟩
  | 17 => ⟨S1x32x1, .i32⟩
  | 18 => ⟨S1x32x1, .i1⟩
  | 19 => ⟨S_, .i32⟩
  | 20 => ⟨S1x32x1, .i32⟩
  | 21 => ⟨S1x32x1, .i32⟩
  | 22 => ⟨S1x32x1, .i32⟩
  | 23 => ⟨S_, .i32⟩
  | 24 => ⟨S64x32x8, .i32⟩
  | 25 => ⟨S64x32x8, .i1⟩
  | 26 => ⟨S_, .i32⟩
  | 27 => ⟨S64x32x8, .i32⟩
  | 28 => ⟨S64x32x8, .i32⟩
  | 29 => ⟨S64x32x8, .i32⟩
  | 30 => ⟨S_, .i32⟩
  | 31 => ⟨S64x32x8, .i32⟩
  | 32 => ⟨S64x32x8, .i1⟩
  | 33 => ⟨S_, .i32⟩
  | 34 => ⟨S64x32x8, .i32⟩
  | 35 => ⟨S64x32x8, .i32⟩
  | 36 => ⟨S64x32x8, .i32⟩
  | 37 => ⟨S64x32x8, .i32⟩
  | 38 => ⟨S64x32x8x1, .i32⟩
  | 39 => ⟨S64x32x8x1, .i32⟩
  | 40 => ⟨S64x32x8x1, .i32⟩
  | 41 => ⟨S64x32x8x3, .i32⟩
  | 42 => ⟨S64x32x8x64, .f32⟩
  | 43 => ⟨S64x32x8, .f32⟩
  | 44 => ⟨S64x32x8, .f32⟩
  | 45 => ⟨S64x32x8x1, .f32⟩
  | 46 => ⟨S64x32x8x64, .f32⟩
  | 47 => ⟨S64x32x8x64, .f32⟩
  | 48 => ⟨S64x32x8, .f32⟩
  | 49 => ⟨S_, .f32⟩
  | 50 => ⟨S64x32x8, .f32⟩
  | 51 => ⟨S64x32x8, .i1⟩
  | 52 => ⟨S_, .f32⟩
  | 53 => ⟨S64x32x8, .f32⟩
  | 54 => ⟨S64x32x8, .i1⟩
  | 55 => ⟨S64x32x8, .i1⟩
  | 56 => ⟨S_, .f32⟩
  | 57 => ⟨S64x32x8, .f32⟩
  | 58 => ⟨S64x32x8, .i1⟩
  | 59 => ⟨S64x32x8, .i1⟩
  | 60 => ⟨S_, .f32⟩
  | 61 => ⟨S64x32x8, .f32⟩
  | 62 => ⟨S64x32x8, .i1⟩
  | 63 => ⟨S64x32x8, .i1⟩
  | 64 => ⟨S_, .i32⟩
  | 65 => ⟨S_, .i32⟩
  | 66 => ⟨S_, .f32⟩
  | 67 => ⟨S64x32x8, .f32⟩
  | 68 => ⟨S64x32x8, .f32⟩
  | 69 => ⟨S_, .f32⟩
  | 70 => ⟨S64x32x8, .f32⟩
  | 71 => ⟨S64x32x8, .f32⟩
  | 72 => ⟨S64x32x8, .i32⟩
  | 73 => ⟨S_, .i32⟩
  | 74 => ⟨S_, .i32⟩
  | 75 => ⟨S_, .f32⟩
  | 76 => ⟨S64x32x8, .f32⟩
  | 77 => ⟨S64x32x8, .f32⟩
  | 78 => ⟨S_, .f32⟩
  | 79 => ⟨S64x32x8, .f32⟩
  | 80 => ⟨S64x32x8, .f32⟩
  | 81 => ⟨S64x32x8, .i32⟩
  | 82 => ⟨S_, .i32⟩
  | 83 => ⟨S1x32x1, .i32⟩
  | 84 => ⟨S1x32x1, .i1⟩
  | 85 => ⟨S_, .i32⟩
  | 86 => ⟨S1x32x1, .i32⟩
  | 87 => ⟨S1x32x1, .i32⟩
  | 88 => ⟨S1x32x1, .i32⟩
  | 89 => ⟨S_, .i32⟩
  | 90 => ⟨S64x32x8, .i32⟩
  | 91 => ⟨S64x32x8, .i1⟩
  | 92 => ⟨S_, .i32⟩
  | 93 => ⟨S64x32x8, .i32⟩
  | 94 => ⟨S64x32x8, .i32⟩
  | 95 => ⟨S64x32x8, .i32⟩
  | 96 => ⟨S_, .i32⟩
  | 97 => ⟨S64x32x8, .i32⟩
  | 98 => ⟨S64x32x8, .i1⟩
  | 99 => ⟨S_, .i32⟩
  | 100 => ⟨S64x32x8, .i32⟩
  | 101 => ⟨S64x32x8, .i32⟩
  | 102 => ⟨S64x32x8, .i32⟩
  | 103 => ⟨S64x32x8, .i32⟩
  | 104 => ⟨S64x32x8x1, .i32⟩
  | 105 => ⟨S64x32x8x1, .i32⟩
  | 106 => ⟨S64x32x8x1, .i32⟩
  | 107 => ⟨S64x32x8x3, .i32⟩
  | 108 => ⟨S64x32x8x64, .f32⟩
  | 109 => ⟨S64x32x8, .f32⟩
  | 110 => ⟨S64x32x8, .f32⟩
  | 111 => ⟨S64x32x8x1, .f32⟩
  | 112 => ⟨S64x32x8x64, .f32⟩
  | 113 => ⟨S64x32x8x64, .f32⟩
  | 114 => ⟨S64x32x8x64, .f32⟩
  | 115 => ⟨S64x32x8, .f32⟩
  | 116 => ⟨S_, .f32⟩
  | 117 => ⟨S64x32x8, .f32⟩
  | 118 => ⟨S64x32x8, .i1⟩
  | 119 => ⟨S_, .f32⟩
  | 120 => ⟨S64x32x8, .f32⟩
  | 121 => ⟨S64x32x8, .i1⟩
  | 122 => ⟨S64x32x8, .i1⟩
  | 123 => ⟨S_, .f32⟩
  | 124 => ⟨S64x32x8, .f32⟩
  | 125 => ⟨S64x32x8, .i1⟩
  | 126 => ⟨S64x32x8, .i1⟩
  | 127 => ⟨S_, .f32⟩
  | _ => ⟨S4x64x768, .f32⟩

abbrev hbmTy0_2 (i : Nat) : BufTy := match i % 128 with
  | 0 => ⟨S64x32x8, .f32⟩
  | 1 => ⟨S64x32x8, .i1⟩
  | 2 => ⟨S64x32x8, .i1⟩
  | 3 => ⟨S_, .i32⟩
  | 4 => ⟨S_, .i32⟩
  | 5 => ⟨S_, .f32⟩
  | 6 => ⟨S64x32x8, .f32⟩
  | 7 => ⟨S64x32x8, .f32⟩
  | 8 => ⟨S_, .f32⟩
  | 9 => ⟨S64x32x8, .f32⟩
  | 10 => ⟨S64x32x8, .f32⟩
  | 11 => ⟨S64x32x8, .i32⟩
  | 12 => ⟨S_, .i32⟩
  | 13 => ⟨S_, .i32⟩
  | 14 => ⟨S_, .f32⟩
  | 15 => ⟨S64x32x8, .f32⟩
  | 16 => ⟨S64x32x8, .f32⟩
  | 17 => ⟨S_, .f32⟩
  | 18 => ⟨S64x32x8, .f32⟩
  | 19 => ⟨S64x32x8, .f32⟩
  | 20 => ⟨S64x32x8, .i32⟩
  | 21 => ⟨S_, .i32⟩
  | 22 => ⟨S1x32x1, .i32⟩
  | 23 => ⟨S1x32x1, .i1⟩
  | 24 => ⟨S_, .i32⟩
  | 25 => ⟨S1x32x1, .i32⟩
  | 26 => ⟨S1x32x1, .i32⟩
  | 27 => ⟨S1x32x1, .i32⟩
  | 28 => ⟨S_, .i32⟩
  | 29 => ⟨S64x32x8, .i32⟩
  | 30 => ⟨S64x32x8, .i1⟩
  | 31 => ⟨S_, .i32⟩
  | 32 => ⟨S64x32x8, .i32⟩
  | 33 => ⟨S64x32x8, .i32⟩
  | 34 => ⟨S64x32x8, .i32⟩
  | 35 => ⟨S_, .i32⟩
  | 36 => ⟨S64x32x8, .i32⟩
  | 37 => ⟨S64x32x8, .i1⟩
  | 38 => ⟨S_, .i32⟩
  | 39 => ⟨S64x32x8, .i32⟩
  | 40 => ⟨S64x32x8, .i32⟩
  | 41 => ⟨S64x32x8, .i32⟩
  | 42 => ⟨S64x32x8, .i32⟩
  | 43 => ⟨S64x32x8x1, .i32⟩
  | 44 => ⟨S64x32x8x1, .i32⟩
  | 45 => ⟨S64x32x8x1, .i32⟩
  | 46 => ⟨S64x32x8x3, .i32⟩
  | 47 => ⟨S64x32x8x64, .f32⟩
  | 48 => ⟨S64x32x8, .f32⟩
  | 49 => ⟨S64x32x8, .f32⟩
  | 50 => ⟨S64x32x8x1, .f32⟩
  | 51 => ⟨S64x32x8x64, .f32⟩
  | 52 => ⟨S64x32x8x64, .f32⟩
  | 53 => ⟨S64x32x8x64, .f32⟩
  | 54 => ⟨S64x32x8, .f32⟩
  | 55 => ⟨S_, .f32⟩
  | 56 => ⟨S64x32x8, .f32⟩
  | 57 => ⟨S64x32x8, .i1⟩
  | 58 => ⟨S_, .f32⟩
  | 59 => ⟨S64x32x8, .f32⟩
  | 60 => ⟨S64x32x8, .i1⟩
  | 61 => ⟨S64x32x8, .i1⟩
  | 62 => ⟨S_, .f32⟩
  | 63 => ⟨S64x32x8, .f32⟩
  | 64 => ⟨S64x32x8, .i1⟩
  | 65 => ⟨S64x32x8, .i1⟩
  | 66 => ⟨S_, .f32⟩
  | 67 => ⟨S64x32x8, .f32⟩
  | 68 => ⟨S64x32x8, .i1⟩
  | 69 => ⟨S64x32x8, .i1⟩
  | 70 => ⟨S_, .i32⟩
  | 71 => ⟨S_, .i32⟩
  | 72 => ⟨S_, .f32⟩
  | 73 => ⟨S64x32x8, .f32⟩
  | 74 => ⟨S64x32x8, .f32⟩
  | 75 => ⟨S_, .f32⟩
  | 76 => ⟨S64x32x8, .f32⟩
  | 77 => ⟨S64x32x8, .f32⟩
  | 78 => ⟨S64x32x8, .i32⟩
  | 79 => ⟨S_, .i32⟩
  | 80 => ⟨S_, .i32⟩
  | 81 => ⟨S_, .f32⟩
  | 82 => ⟨S64x32x8, .f32⟩
  | 83 => ⟨S64x32x8, .f32⟩
  | 84 => ⟨S_, .f32⟩
  | 85 => ⟨S64x32x8, .f32⟩
  | 86 => ⟨S64x32x8, .f32⟩
  | 87 => ⟨S64x32x8, .i32⟩
  | 88 => ⟨S_, .i32⟩
  | 89 => ⟨S1x32x1, .i32⟩
  | 90 => ⟨S1x32x1, .i1⟩
  | 91 => ⟨S_, .i32⟩
  | 92 => ⟨S1x32x1, .i32⟩
  | 93 => ⟨S1x32x1, .i32⟩
  | 94 => ⟨S1x32x1, .i32⟩
  | 95 => ⟨S_, .i32⟩
  | 96 => ⟨S64x32x8, .i32⟩
  | 97 => ⟨S64x32x8, .i1⟩
  | 98 => ⟨S_, .i32⟩
  | 99 => ⟨S64x32x8, .i32⟩
  | 100 => ⟨S64x32x8, .i32⟩
  | 101 => ⟨S64x32x8, .i32⟩
  | 102 => ⟨S_, .i32⟩
  | 103 => ⟨S64x32x8, .i32⟩
  | 104 => ⟨S64x32x8, .i1⟩
  | 105 => ⟨S_, .i32⟩
  | 106 => ⟨S64x32x8, .i32⟩
  | 107 => ⟨S64x32x8, .i32⟩
  | 108 => ⟨S64x32x8, .i32⟩
  | 109 => ⟨S64x32x8, .i32⟩
  | 110 => ⟨S64x32x8x1, .i32⟩
  | 111 => ⟨S64x32x8x1, .i32⟩
  | 112 => ⟨S64x32x8x1, .i32⟩
  | 113 => ⟨S64x32x8x3, .i32⟩
  | 114 => ⟨S64x32x8x64, .f32⟩
  | 115 => ⟨S64x32x8, .f32⟩
  | 116 => ⟨S64x32x8, .f32⟩
  | 117 => ⟨S64x32x8x1, .f32⟩
  | 118 => ⟨S64x32x8x64, .f32⟩
  | 119 => ⟨S64x32x8x64, .f32⟩
  | 120 => ⟨S64x32x8x64, .f32⟩
  | 121 => ⟨S64x4x8x8x64, .f32⟩
  | 122 => ⟨S4x64x8x8x64, .f32⟩
  | 123 => ⟨S4x64x8x8x1, .f32⟩
  | 124 => ⟨S4x64x8x8x64, .f32⟩
  | 125 => ⟨S4x64x8x8x64, .f32⟩
  | 126 => ⟨S_, .f32⟩
  | 127 => ⟨S4x64x8x64, .f32⟩
  | _ => ⟨S4x64x768, .f32⟩

abbrev hbmTy0_3 (i : Nat) : BufTy := match i % 128 with
  | 0 => ⟨S4x64x512, .f32⟩
  | 1 => ⟨S4x64x768, .f32⟩
  | 2 => ⟨S1x1x768, .f32⟩
  | 3 => ⟨S4x64x768, .f32⟩
  | 4 => ⟨S4x64x768, .f32⟩
  | _ => ⟨S4x64x768, .f32⟩

abbrev hbmTy (i : Nat) : BufTy := match i / 128 with
  | 0 => hbmTy0_0 i
  | 1 => hbmTy0_1 i
  | 2 => hbmTy0_2 i
  | 3 => hbmTy0_3 i
  | _ => ⟨S4x64x768, .f32⟩

abbrev bufTy : (tb : Table) → Fin (tcTables nBuf tb) → BufTy
  | .hbm, ⟨i, _⟩ => hbmTy i
  | _, _ => ⟨S4x64x768, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_arg11 : Ref sig .tc := ⟨.hbm, 11, rfl⟩
abbrev main_arg12 : Ref sig .tc := ⟨.hbm, 12, rfl⟩
abbrev main_arg13 : Ref sig .tc := ⟨.hbm, 13, rfl⟩
abbrev main_v0 : Ref sig .tc := ⟨.hbm, 14, rfl⟩
abbrev main_v1 : Ref sig .tc := ⟨.hbm, 15, rfl⟩
abbrev main_v2 : Ref sig .tc := ⟨.hbm, 16, rfl⟩
abbrev main_v3 : Ref sig .tc := ⟨.hbm, 17, rfl⟩
abbrev main_v4 : Ref sig .tc := ⟨.hbm, 18, rfl⟩
abbrev main_v5 : Ref sig .tc := ⟨.hbm, 19, rfl⟩
abbrev main_v6 : Ref sig .tc := ⟨.hbm, 20, rfl⟩
abbrev main_v7 : Ref sig .tc := ⟨.hbm, 21, rfl⟩
abbrev main_cst : Ref sig .tc := ⟨.hbm, 22, rfl⟩
abbrev main_v8 : Ref sig .tc := ⟨.hbm, 23, rfl⟩
abbrev main_v9 : Ref sig .tc := ⟨.hbm, 24, rfl⟩
abbrev main_v10 : Ref sig .tc := ⟨.hbm, 25, rfl⟩
abbrev main_cst_0 : Ref sig .tc := ⟨.hbm, 26, rfl⟩
abbrev main_v11 : Ref sig .tc := ⟨.hbm, 27, rfl⟩
abbrev main_v12 : Ref sig .tc := ⟨.hbm, 28, rfl⟩
abbrev main_v13 : Ref sig .tc := ⟨.hbm, 29, rfl⟩
abbrev main_v14 : Ref sig .tc := ⟨.hbm, 30, rfl⟩
abbrev main_v15 : Ref sig .tc := ⟨.hbm, 31, rfl⟩
abbrev main_v16 : Ref sig .tc := ⟨.hbm, 32, rfl⟩
abbrev main_v17 : Ref sig .tc := ⟨.hbm, 33, rfl⟩
abbrev main_v18 : Ref sig .tc := ⟨.hbm, 34, rfl⟩
abbrev main_v19 : Ref sig .tc := ⟨.hbm, 35, rfl⟩
abbrev main_v20 : Ref sig .tc := ⟨.hbm, 36, rfl⟩
abbrev main_v21 : Ref sig .tc := ⟨.hbm, 37, rfl⟩
abbrev main_v22 : Ref sig .tc := ⟨.hbm, 38, rfl⟩
abbrev main_v23 : Ref sig .tc := ⟨.hbm, 39, rfl⟩
abbrev main_v24 : Ref sig .tc := ⟨.hbm, 40, rfl⟩
abbrev main_v25 : Ref sig .tc := ⟨.hbm, 41, rfl⟩
abbrev main_cst_1 : Ref sig .tc := ⟨.hbm, 42, rfl⟩
abbrev main_v26 : Ref sig .tc := ⟨.hbm, 43, rfl⟩
abbrev main_v27 : Ref sig .tc := ⟨.hbm, 44, rfl⟩
abbrev main_v28 : Ref sig .tc := ⟨.hbm, 45, rfl⟩
abbrev main_cst_2 : Ref sig .tc := ⟨.hbm, 46, rfl⟩
abbrev main_v29 : Ref sig .tc := ⟨.hbm, 47, rfl⟩
abbrev main_v30 : Ref sig .tc := ⟨.hbm, 48, rfl⟩
abbrev main_v31 : Ref sig .tc := ⟨.hbm, 49, rfl⟩
abbrev main_v32 : Ref sig .tc := ⟨.hbm, 50, rfl⟩
abbrev main_v33 : Ref sig .tc := ⟨.hbm, 51, rfl⟩
abbrev main_v34 : Ref sig .tc := ⟨.hbm, 52, rfl⟩
abbrev main_v35 : Ref sig .tc := ⟨.hbm, 53, rfl⟩
abbrev main_v36 : Ref sig .tc := ⟨.hbm, 54, rfl⟩
abbrev main_v37 : Ref sig .tc := ⟨.hbm, 55, rfl⟩
abbrev main_cst_3 : Ref sig .tc := ⟨.hbm, 56, rfl⟩
abbrev main_v38 : Ref sig .tc := ⟨.hbm, 57, rfl⟩
abbrev main_cst_4 : Ref sig .tc := ⟨.hbm, 58, rfl⟩
abbrev main_v39 : Ref sig .tc := ⟨.hbm, 59, rfl⟩
abbrev main_v40 : Ref sig .tc := ⟨.hbm, 60, rfl⟩
abbrev main_v41 : Ref sig .tc := ⟨.hbm, 61, rfl⟩
abbrev main_v42 : Ref sig .tc := ⟨.hbm, 62, rfl⟩
abbrev main_v43 : Ref sig .tc := ⟨.hbm, 63, rfl⟩
abbrev main_v44 : Ref sig .tc := ⟨.hbm, 64, rfl⟩
abbrev main_cst_5 : Ref sig .tc := ⟨.hbm, 65, rfl⟩
abbrev main_v45 : Ref sig .tc := ⟨.hbm, 66, rfl⟩
abbrev main_v46 : Ref sig .tc := ⟨.hbm, 67, rfl⟩
abbrev main_v47 : Ref sig .tc := ⟨.hbm, 68, rfl⟩
abbrev main_v48 : Ref sig .tc := ⟨.hbm, 69, rfl⟩
abbrev main_v49 : Ref sig .tc := ⟨.hbm, 70, rfl⟩
abbrev main_v50 : Ref sig .tc := ⟨.hbm, 71, rfl⟩
abbrev main_v51 : Ref sig .tc := ⟨.hbm, 72, rfl⟩
abbrev main_v52 : Ref sig .tc := ⟨.hbm, 73, rfl⟩
abbrev main_cst_6 : Ref sig .tc := ⟨.hbm, 74, rfl⟩
abbrev main_v53 : Ref sig .tc := ⟨.hbm, 75, rfl⟩
abbrev main_v54 : Ref sig .tc := ⟨.hbm, 76, rfl⟩
abbrev main_cst_7 : Ref sig .tc := ⟨.hbm, 77, rfl⟩
abbrev main_v55 : Ref sig .tc := ⟨.hbm, 78, rfl⟩
abbrev main_v56 : Ref sig .tc := ⟨.hbm, 79, rfl⟩
abbrev main_cst_8 : Ref sig .tc := ⟨.hbm, 80, rfl⟩
abbrev main_v57 : Ref sig .tc := ⟨.hbm, 81, rfl⟩
abbrev main_v58 : Ref sig .tc := ⟨.hbm, 82, rfl⟩
abbrev main_cst_9 : Ref sig .tc := ⟨.hbm, 83, rfl⟩
abbrev main_v59 : Ref sig .tc := ⟨.hbm, 84, rfl⟩
abbrev main_v60 : Ref sig .tc := ⟨.hbm, 85, rfl⟩
abbrev main_cst_10 : Ref sig .tc := ⟨.hbm, 86, rfl⟩
abbrev main_v61 : Ref sig .tc := ⟨.hbm, 87, rfl⟩
abbrev main_v62 : Ref sig .tc := ⟨.hbm, 88, rfl⟩
abbrev main_cst_11 : Ref sig .tc := ⟨.hbm, 89, rfl⟩
abbrev main_v63 : Ref sig .tc := ⟨.hbm, 90, rfl⟩
abbrev main_v64 : Ref sig .tc := ⟨.hbm, 91, rfl⟩
abbrev main_v65 : Ref sig .tc := ⟨.hbm, 92, rfl⟩
abbrev main_v66 : Ref sig .tc := ⟨.hbm, 93, rfl⟩
abbrev main_cst_12 : Ref sig .tc := ⟨.hbm, 94, rfl⟩
abbrev main_v67 : Ref sig .tc := ⟨.hbm, 95, rfl⟩
abbrev main_v68 : Ref sig .tc := ⟨.hbm, 96, rfl⟩
abbrev main_cst_13 : Ref sig .tc := ⟨.hbm, 97, rfl⟩
abbrev main_v69 : Ref sig .tc := ⟨.hbm, 98, rfl⟩
abbrev main_v70 : Ref sig .tc := ⟨.hbm, 99, rfl⟩
abbrev main_v71 : Ref sig .tc := ⟨.hbm, 100, rfl⟩
abbrev main_cst_14 : Ref sig .tc := ⟨.hbm, 101, rfl⟩
abbrev main_v72 : Ref sig .tc := ⟨.hbm, 102, rfl⟩
abbrev main_v73 : Ref sig .tc := ⟨.hbm, 103, rfl⟩
abbrev main_v74 : Ref sig .tc := ⟨.hbm, 104, rfl⟩
abbrev main_cst_15 : Ref sig .tc := ⟨.hbm, 105, rfl⟩
abbrev main_v75 : Ref sig .tc := ⟨.hbm, 106, rfl⟩
abbrev main_v76 : Ref sig .tc := ⟨.hbm, 107, rfl⟩
abbrev main_v77 : Ref sig .tc := ⟨.hbm, 108, rfl⟩
abbrev main_v78 : Ref sig .tc := ⟨.hbm, 109, rfl⟩
abbrev main_v79 : Ref sig .tc := ⟨.hbm, 110, rfl⟩
abbrev main_cst_16 : Ref sig .tc := ⟨.hbm, 111, rfl⟩
abbrev main_v80 : Ref sig .tc := ⟨.hbm, 112, rfl⟩
abbrev main_v81 : Ref sig .tc := ⟨.hbm, 113, rfl⟩
abbrev main_cst_17 : Ref sig .tc := ⟨.hbm, 114, rfl⟩
abbrev main_v82 : Ref sig .tc := ⟨.hbm, 115, rfl⟩
abbrev main_v83 : Ref sig .tc := ⟨.hbm, 116, rfl⟩
abbrev main_v84 : Ref sig .tc := ⟨.hbm, 117, rfl⟩
abbrev main_cst_18 : Ref sig .tc := ⟨.hbm, 118, rfl⟩
abbrev main_v85 : Ref sig .tc := ⟨.hbm, 119, rfl⟩
abbrev main_v86 : Ref sig .tc := ⟨.hbm, 120, rfl⟩
abbrev main_v87 : Ref sig .tc := ⟨.hbm, 121, rfl⟩
abbrev main_cst_19 : Ref sig .tc := ⟨.hbm, 122, rfl⟩
abbrev main_v88 : Ref sig .tc := ⟨.hbm, 123, rfl⟩
abbrev main_v89 : Ref sig .tc := ⟨.hbm, 124, rfl⟩
abbrev main_v90 : Ref sig .tc := ⟨.hbm, 125, rfl⟩
abbrev main_c : Ref sig .tc := ⟨.hbm, 126, rfl⟩
abbrev main_c_20 : Ref sig .tc := ⟨.hbm, 127, rfl⟩
abbrev main_call0_v0 : Ref sig .tc := ⟨.hbm, 128, rfl⟩
abbrev main_call0_v1 : Ref sig .tc := ⟨.hbm, 129, rfl⟩
abbrev main_call0_v2 : Ref sig .tc := ⟨.hbm, 130, rfl⟩
abbrev main_call0_v3 : Ref sig .tc := ⟨.hbm, 131, rfl⟩
abbrev main_call0_v4 : Ref sig .tc := ⟨.hbm, 132, rfl⟩
abbrev main_v91 : Ref sig .tc := ⟨.hbm, 133, rfl⟩
abbrev main_v92 : Ref sig .tc := ⟨.hbm, 134, rfl⟩
abbrev main_c_21 : Ref sig .tc := ⟨.hbm, 135, rfl⟩
abbrev main_c_22 : Ref sig .tc := ⟨.hbm, 136, rfl⟩
abbrev main_call1_v0 : Ref sig .tc := ⟨.hbm, 137, rfl⟩
abbrev main_call1_v1 : Ref sig .tc := ⟨.hbm, 138, rfl⟩
abbrev main_call1_v2 : Ref sig .tc := ⟨.hbm, 139, rfl⟩
abbrev main_call1_v3 : Ref sig .tc := ⟨.hbm, 140, rfl⟩
abbrev main_call1_v4 : Ref sig .tc := ⟨.hbm, 141, rfl⟩
abbrev main_v93 : Ref sig .tc := ⟨.hbm, 142, rfl⟩
abbrev main_v94 : Ref sig .tc := ⟨.hbm, 143, rfl⟩
abbrev main_c_23 : Ref sig .tc := ⟨.hbm, 144, rfl⟩
abbrev main_v95 : Ref sig .tc := ⟨.hbm, 145, rfl⟩
abbrev main_v96 : Ref sig .tc := ⟨.hbm, 146, rfl⟩
abbrev main_c_24 : Ref sig .tc := ⟨.hbm, 147, rfl⟩
abbrev main_v97 : Ref sig .tc := ⟨.hbm, 148, rfl⟩
abbrev main_v98 : Ref sig .tc := ⟨.hbm, 149, rfl⟩
abbrev main_v99 : Ref sig .tc := ⟨.hbm, 150, rfl⟩
abbrev main_c_25 : Ref sig .tc := ⟨.hbm, 151, rfl⟩
abbrev main_v100 : Ref sig .tc := ⟨.hbm, 152, rfl⟩
abbrev main_v101 : Ref sig .tc := ⟨.hbm, 153, rfl⟩
abbrev main_c_26 : Ref sig .tc := ⟨.hbm, 154, rfl⟩
abbrev main_v102 : Ref sig .tc := ⟨.hbm, 155, rfl⟩
abbrev main_v103 : Ref sig .tc := ⟨.hbm, 156, rfl⟩
abbrev main_v104 : Ref sig .tc := ⟨.hbm, 157, rfl⟩
abbrev main_c_27 : Ref sig .tc := ⟨.hbm, 158, rfl⟩
abbrev main_v105 : Ref sig .tc := ⟨.hbm, 159, rfl⟩
abbrev main_v106 : Ref sig .tc := ⟨.hbm, 160, rfl⟩
abbrev main_c_28 : Ref sig .tc := ⟨.hbm, 161, rfl⟩
abbrev main_v107 : Ref sig .tc := ⟨.hbm, 162, rfl⟩
abbrev main_v108 : Ref sig .tc := ⟨.hbm, 163, rfl⟩
abbrev main_v109 : Ref sig .tc := ⟨.hbm, 164, rfl⟩
abbrev main_v110 : Ref sig .tc := ⟨.hbm, 165, rfl⟩
abbrev main_v111 : Ref sig .tc := ⟨.hbm, 166, rfl⟩
abbrev main_v112 : Ref sig .tc := ⟨.hbm, 167, rfl⟩
abbrev main_v113 : Ref sig .tc := ⟨.hbm, 168, rfl⟩
abbrev main_v114 : Ref sig .tc := ⟨.hbm, 169, rfl⟩
abbrev main_v115 : Ref sig .tc := ⟨.hbm, 170, rfl⟩
abbrev main_v116 : Ref sig .tc := ⟨.hbm, 171, rfl⟩
abbrev main_v117 : Ref sig .tc := ⟨.hbm, 172, rfl⟩
abbrev main_v118 : Ref sig .tc := ⟨.hbm, 173, rfl⟩
abbrev main_v119 : Ref sig .tc := ⟨.hbm, 174, rfl⟩
abbrev main_v120 : Ref sig .tc := ⟨.hbm, 175, rfl⟩
abbrev main_v121 : Ref sig .tc := ⟨.hbm, 176, rfl⟩
abbrev main_cst_29 : Ref sig .tc := ⟨.hbm, 177, rfl⟩
abbrev main_v122 : Ref sig .tc := ⟨.hbm, 178, rfl⟩
abbrev main_v123 : Ref sig .tc := ⟨.hbm, 179, rfl⟩
abbrev main_cst_30 : Ref sig .tc := ⟨.hbm, 180, rfl⟩
abbrev main_v124 : Ref sig .tc := ⟨.hbm, 181, rfl⟩
abbrev main_v125 : Ref sig .tc := ⟨.hbm, 182, rfl⟩
abbrev main_v126 : Ref sig .tc := ⟨.hbm, 183, rfl⟩
abbrev main_cst_31 : Ref sig .tc := ⟨.hbm, 184, rfl⟩
abbrev main_v127 : Ref sig .tc := ⟨.hbm, 185, rfl⟩
abbrev main_v128 : Ref sig .tc := ⟨.hbm, 186, rfl⟩
abbrev main_v129 : Ref sig .tc := ⟨.hbm, 187, rfl⟩
abbrev main_cst_32 : Ref sig .tc := ⟨.hbm, 188, rfl⟩
abbrev main_v130 : Ref sig .tc := ⟨.hbm, 189, rfl⟩
abbrev main_v131 : Ref sig .tc := ⟨.hbm, 190, rfl⟩
abbrev main_v132 : Ref sig .tc := ⟨.hbm, 191, rfl⟩
abbrev main_c_33 : Ref sig .tc := ⟨.hbm, 192, rfl⟩
abbrev main_c_34 : Ref sig .tc := ⟨.hbm, 193, rfl⟩
abbrev main_call2_v0 : Ref sig .tc := ⟨.hbm, 194, rfl⟩
abbrev main_call2_v1 : Ref sig .tc := ⟨.hbm, 195, rfl⟩
abbrev main_call2_v2 : Ref sig .tc := ⟨.hbm, 196, rfl⟩
abbrev main_call2_v3 : Ref sig .tc := ⟨.hbm, 197, rfl⟩
abbrev main_call2_v4 : Ref sig .tc := ⟨.hbm, 198, rfl⟩
abbrev main_v133 : Ref sig .tc := ⟨.hbm, 199, rfl⟩
abbrev main_v134 : Ref sig .tc := ⟨.hbm, 200, rfl⟩
abbrev main_c_35 : Ref sig .tc := ⟨.hbm, 201, rfl⟩
abbrev main_c_36 : Ref sig .tc := ⟨.hbm, 202, rfl⟩
abbrev main_call3_v0 : Ref sig .tc := ⟨.hbm, 203, rfl⟩
abbrev main_call3_v1 : Ref sig .tc := ⟨.hbm, 204, rfl⟩
abbrev main_call3_v2 : Ref sig .tc := ⟨.hbm, 205, rfl⟩
abbrev main_call3_v3 : Ref sig .tc := ⟨.hbm, 206, rfl⟩
abbrev main_call3_v4 : Ref sig .tc := ⟨.hbm, 207, rfl⟩
abbrev main_v135 : Ref sig .tc := ⟨.hbm, 208, rfl⟩
abbrev main_v136 : Ref sig .tc := ⟨.hbm, 209, rfl⟩
abbrev main_c_37 : Ref sig .tc := ⟨.hbm, 210, rfl⟩
abbrev main_v137 : Ref sig .tc := ⟨.hbm, 211, rfl⟩
abbrev main_v138 : Ref sig .tc := ⟨.hbm, 212, rfl⟩
abbrev main_c_38 : Ref sig .tc := ⟨.hbm, 213, rfl⟩
abbrev main_v139 : Ref sig .tc := ⟨.hbm, 214, rfl⟩
abbrev main_v140 : Ref sig .tc := ⟨.hbm, 215, rfl⟩
abbrev main_v141 : Ref sig .tc := ⟨.hbm, 216, rfl⟩
abbrev main_c_39 : Ref sig .tc := ⟨.hbm, 217, rfl⟩
abbrev main_v142 : Ref sig .tc := ⟨.hbm, 218, rfl⟩
abbrev main_v143 : Ref sig .tc := ⟨.hbm, 219, rfl⟩
abbrev main_c_40 : Ref sig .tc := ⟨.hbm, 220, rfl⟩
abbrev main_v144 : Ref sig .tc := ⟨.hbm, 221, rfl⟩
abbrev main_v145 : Ref sig .tc := ⟨.hbm, 222, rfl⟩
abbrev main_v146 : Ref sig .tc := ⟨.hbm, 223, rfl⟩
abbrev main_c_41 : Ref sig .tc := ⟨.hbm, 224, rfl⟩
abbrev main_v147 : Ref sig .tc := ⟨.hbm, 225, rfl⟩
abbrev main_v148 : Ref sig .tc := ⟨.hbm, 226, rfl⟩
abbrev main_c_42 : Ref sig .tc := ⟨.hbm, 227, rfl⟩
abbrev main_v149 : Ref sig .tc := ⟨.hbm, 228, rfl⟩
abbrev main_v150 : Ref sig .tc := ⟨.hbm, 229, rfl⟩
abbrev main_v151 : Ref sig .tc := ⟨.hbm, 230, rfl⟩
abbrev main_v152 : Ref sig .tc := ⟨.hbm, 231, rfl⟩
abbrev main_v153 : Ref sig .tc := ⟨.hbm, 232, rfl⟩
abbrev main_v154 : Ref sig .tc := ⟨.hbm, 233, rfl⟩
abbrev main_v155 : Ref sig .tc := ⟨.hbm, 234, rfl⟩
abbrev main_v156 : Ref sig .tc := ⟨.hbm, 235, rfl⟩
abbrev main_v157 : Ref sig .tc := ⟨.hbm, 236, rfl⟩
abbrev main_v158 : Ref sig .tc := ⟨.hbm, 237, rfl⟩
abbrev main_v159 : Ref sig .tc := ⟨.hbm, 238, rfl⟩
abbrev main_v160 : Ref sig .tc := ⟨.hbm, 239, rfl⟩
abbrev main_v161 : Ref sig .tc := ⟨.hbm, 240, rfl⟩
abbrev main_v162 : Ref sig .tc := ⟨.hbm, 241, rfl⟩
abbrev main_v163 : Ref sig .tc := ⟨.hbm, 242, rfl⟩
abbrev main_v164 : Ref sig .tc := ⟨.hbm, 243, rfl⟩
abbrev main_cst_43 : Ref sig .tc := ⟨.hbm, 244, rfl⟩
abbrev main_v165 : Ref sig .tc := ⟨.hbm, 245, rfl⟩
abbrev main_v166 : Ref sig .tc := ⟨.hbm, 246, rfl⟩
abbrev main_cst_44 : Ref sig .tc := ⟨.hbm, 247, rfl⟩
abbrev main_v167 : Ref sig .tc := ⟨.hbm, 248, rfl⟩
abbrev main_v168 : Ref sig .tc := ⟨.hbm, 249, rfl⟩
abbrev main_v169 : Ref sig .tc := ⟨.hbm, 250, rfl⟩
abbrev main_cst_45 : Ref sig .tc := ⟨.hbm, 251, rfl⟩
abbrev main_v170 : Ref sig .tc := ⟨.hbm, 252, rfl⟩
abbrev main_v171 : Ref sig .tc := ⟨.hbm, 253, rfl⟩
abbrev main_v172 : Ref sig .tc := ⟨.hbm, 254, rfl⟩
abbrev main_cst_46 : Ref sig .tc := ⟨.hbm, 255, rfl⟩
abbrev main_v173 : Ref sig .tc := ⟨.hbm, 256, rfl⟩
abbrev main_v174 : Ref sig .tc := ⟨.hbm, 257, rfl⟩
abbrev main_v175 : Ref sig .tc := ⟨.hbm, 258, rfl⟩
abbrev main_c_47 : Ref sig .tc := ⟨.hbm, 259, rfl⟩
abbrev main_c_48 : Ref sig .tc := ⟨.hbm, 260, rfl⟩
abbrev main_call4_v0 : Ref sig .tc := ⟨.hbm, 261, rfl⟩
abbrev main_call4_v1 : Ref sig .tc := ⟨.hbm, 262, rfl⟩
abbrev main_call4_v2 : Ref sig .tc := ⟨.hbm, 263, rfl⟩
abbrev main_call4_v3 : Ref sig .tc := ⟨.hbm, 264, rfl⟩
abbrev main_call4_v4 : Ref sig .tc := ⟨.hbm, 265, rfl⟩
abbrev main_v176 : Ref sig .tc := ⟨.hbm, 266, rfl⟩
abbrev main_v177 : Ref sig .tc := ⟨.hbm, 267, rfl⟩
abbrev main_c_49 : Ref sig .tc := ⟨.hbm, 268, rfl⟩
abbrev main_c_50 : Ref sig .tc := ⟨.hbm, 269, rfl⟩
abbrev main_call5_v0 : Ref sig .tc := ⟨.hbm, 270, rfl⟩
abbrev main_call5_v1 : Ref sig .tc := ⟨.hbm, 271, rfl⟩
abbrev main_call5_v2 : Ref sig .tc := ⟨.hbm, 272, rfl⟩
abbrev main_call5_v3 : Ref sig .tc := ⟨.hbm, 273, rfl⟩
abbrev main_call5_v4 : Ref sig .tc := ⟨.hbm, 274, rfl⟩
abbrev main_v178 : Ref sig .tc := ⟨.hbm, 275, rfl⟩
abbrev main_v179 : Ref sig .tc := ⟨.hbm, 276, rfl⟩
abbrev main_c_51 : Ref sig .tc := ⟨.hbm, 277, rfl⟩
abbrev main_v180 : Ref sig .tc := ⟨.hbm, 278, rfl⟩
abbrev main_v181 : Ref sig .tc := ⟨.hbm, 279, rfl⟩
abbrev main_c_52 : Ref sig .tc := ⟨.hbm, 280, rfl⟩
abbrev main_v182 : Ref sig .tc := ⟨.hbm, 281, rfl⟩
abbrev main_v183 : Ref sig .tc := ⟨.hbm, 282, rfl⟩
abbrev main_v184 : Ref sig .tc := ⟨.hbm, 283, rfl⟩
abbrev main_c_53 : Ref sig .tc := ⟨.hbm, 284, rfl⟩
abbrev main_v185 : Ref sig .tc := ⟨.hbm, 285, rfl⟩
abbrev main_v186 : Ref sig .tc := ⟨.hbm, 286, rfl⟩
abbrev main_c_54 : Ref sig .tc := ⟨.hbm, 287, rfl⟩
abbrev main_v187 : Ref sig .tc := ⟨.hbm, 288, rfl⟩
abbrev main_v188 : Ref sig .tc := ⟨.hbm, 289, rfl⟩
abbrev main_v189 : Ref sig .tc := ⟨.hbm, 290, rfl⟩
abbrev main_c_55 : Ref sig .tc := ⟨.hbm, 291, rfl⟩
abbrev main_v190 : Ref sig .tc := ⟨.hbm, 292, rfl⟩
abbrev main_v191 : Ref sig .tc := ⟨.hbm, 293, rfl⟩
abbrev main_c_56 : Ref sig .tc := ⟨.hbm, 294, rfl⟩
abbrev main_v192 : Ref sig .tc := ⟨.hbm, 295, rfl⟩
abbrev main_v193 : Ref sig .tc := ⟨.hbm, 296, rfl⟩
abbrev main_v194 : Ref sig .tc := ⟨.hbm, 297, rfl⟩
abbrev main_v195 : Ref sig .tc := ⟨.hbm, 298, rfl⟩
abbrev main_v196 : Ref sig .tc := ⟨.hbm, 299, rfl⟩
abbrev main_v197 : Ref sig .tc := ⟨.hbm, 300, rfl⟩
abbrev main_v198 : Ref sig .tc := ⟨.hbm, 301, rfl⟩
abbrev main_v199 : Ref sig .tc := ⟨.hbm, 302, rfl⟩
abbrev main_v200 : Ref sig .tc := ⟨.hbm, 303, rfl⟩
abbrev main_v201 : Ref sig .tc := ⟨.hbm, 304, rfl⟩
abbrev main_v202 : Ref sig .tc := ⟨.hbm, 305, rfl⟩
abbrev main_v203 : Ref sig .tc := ⟨.hbm, 306, rfl⟩
abbrev main_v204 : Ref sig .tc := ⟨.hbm, 307, rfl⟩
abbrev main_v205 : Ref sig .tc := ⟨.hbm, 308, rfl⟩
abbrev main_v206 : Ref sig .tc := ⟨.hbm, 309, rfl⟩
abbrev main_v207 : Ref sig .tc := ⟨.hbm, 310, rfl⟩
abbrev main_cst_57 : Ref sig .tc := ⟨.hbm, 311, rfl⟩
abbrev main_v208 : Ref sig .tc := ⟨.hbm, 312, rfl⟩
abbrev main_v209 : Ref sig .tc := ⟨.hbm, 313, rfl⟩
abbrev main_cst_58 : Ref sig .tc := ⟨.hbm, 314, rfl⟩
abbrev main_v210 : Ref sig .tc := ⟨.hbm, 315, rfl⟩
abbrev main_v211 : Ref sig .tc := ⟨.hbm, 316, rfl⟩
abbrev main_v212 : Ref sig .tc := ⟨.hbm, 317, rfl⟩
abbrev main_cst_59 : Ref sig .tc := ⟨.hbm, 318, rfl⟩
abbrev main_v213 : Ref sig .tc := ⟨.hbm, 319, rfl⟩
abbrev main_v214 : Ref sig .tc := ⟨.hbm, 320, rfl⟩
abbrev main_v215 : Ref sig .tc := ⟨.hbm, 321, rfl⟩
abbrev main_cst_60 : Ref sig .tc := ⟨.hbm, 322, rfl⟩
abbrev main_v216 : Ref sig .tc := ⟨.hbm, 323, rfl⟩
abbrev main_v217 : Ref sig .tc := ⟨.hbm, 324, rfl⟩
abbrev main_v218 : Ref sig .tc := ⟨.hbm, 325, rfl⟩
abbrev main_c_61 : Ref sig .tc := ⟨.hbm, 326, rfl⟩
abbrev main_c_62 : Ref sig .tc := ⟨.hbm, 327, rfl⟩
abbrev main_call6_v0 : Ref sig .tc := ⟨.hbm, 328, rfl⟩
abbrev main_call6_v1 : Ref sig .tc := ⟨.hbm, 329, rfl⟩
abbrev main_call6_v2 : Ref sig .tc := ⟨.hbm, 330, rfl⟩
abbrev main_call6_v3 : Ref sig .tc := ⟨.hbm, 331, rfl⟩
abbrev main_call6_v4 : Ref sig .tc := ⟨.hbm, 332, rfl⟩
abbrev main_v219 : Ref sig .tc := ⟨.hbm, 333, rfl⟩
abbrev main_v220 : Ref sig .tc := ⟨.hbm, 334, rfl⟩
abbrev main_c_63 : Ref sig .tc := ⟨.hbm, 335, rfl⟩
abbrev main_c_64 : Ref sig .tc := ⟨.hbm, 336, rfl⟩
abbrev main_call7_v0 : Ref sig .tc := ⟨.hbm, 337, rfl⟩
abbrev main_call7_v1 : Ref sig .tc := ⟨.hbm, 338, rfl⟩
abbrev main_call7_v2 : Ref sig .tc := ⟨.hbm, 339, rfl⟩
abbrev main_call7_v3 : Ref sig .tc := ⟨.hbm, 340, rfl⟩
abbrev main_call7_v4 : Ref sig .tc := ⟨.hbm, 341, rfl⟩
abbrev main_v221 : Ref sig .tc := ⟨.hbm, 342, rfl⟩
abbrev main_v222 : Ref sig .tc := ⟨.hbm, 343, rfl⟩
abbrev main_c_65 : Ref sig .tc := ⟨.hbm, 344, rfl⟩
abbrev main_v223 : Ref sig .tc := ⟨.hbm, 345, rfl⟩
abbrev main_v224 : Ref sig .tc := ⟨.hbm, 346, rfl⟩
abbrev main_c_66 : Ref sig .tc := ⟨.hbm, 347, rfl⟩
abbrev main_v225 : Ref sig .tc := ⟨.hbm, 348, rfl⟩
abbrev main_v226 : Ref sig .tc := ⟨.hbm, 349, rfl⟩
abbrev main_v227 : Ref sig .tc := ⟨.hbm, 350, rfl⟩
abbrev main_c_67 : Ref sig .tc := ⟨.hbm, 351, rfl⟩
abbrev main_v228 : Ref sig .tc := ⟨.hbm, 352, rfl⟩
abbrev main_v229 : Ref sig .tc := ⟨.hbm, 353, rfl⟩
abbrev main_c_68 : Ref sig .tc := ⟨.hbm, 354, rfl⟩
abbrev main_v230 : Ref sig .tc := ⟨.hbm, 355, rfl⟩
abbrev main_v231 : Ref sig .tc := ⟨.hbm, 356, rfl⟩
abbrev main_v232 : Ref sig .tc := ⟨.hbm, 357, rfl⟩
abbrev main_c_69 : Ref sig .tc := ⟨.hbm, 358, rfl⟩
abbrev main_v233 : Ref sig .tc := ⟨.hbm, 359, rfl⟩
abbrev main_v234 : Ref sig .tc := ⟨.hbm, 360, rfl⟩
abbrev main_c_70 : Ref sig .tc := ⟨.hbm, 361, rfl⟩
abbrev main_v235 : Ref sig .tc := ⟨.hbm, 362, rfl⟩
abbrev main_v236 : Ref sig .tc := ⟨.hbm, 363, rfl⟩
abbrev main_v237 : Ref sig .tc := ⟨.hbm, 364, rfl⟩
abbrev main_v238 : Ref sig .tc := ⟨.hbm, 365, rfl⟩
abbrev main_v239 : Ref sig .tc := ⟨.hbm, 366, rfl⟩
abbrev main_v240 : Ref sig .tc := ⟨.hbm, 367, rfl⟩
abbrev main_v241 : Ref sig .tc := ⟨.hbm, 368, rfl⟩
abbrev main_v242 : Ref sig .tc := ⟨.hbm, 369, rfl⟩
abbrev main_v243 : Ref sig .tc := ⟨.hbm, 370, rfl⟩
abbrev main_v244 : Ref sig .tc := ⟨.hbm, 371, rfl⟩
abbrev main_v245 : Ref sig .tc := ⟨.hbm, 372, rfl⟩
abbrev main_v246 : Ref sig .tc := ⟨.hbm, 373, rfl⟩
abbrev main_v247 : Ref sig .tc := ⟨.hbm, 374, rfl⟩
abbrev main_v248 : Ref sig .tc := ⟨.hbm, 375, rfl⟩
abbrev main_v249 : Ref sig .tc := ⟨.hbm, 376, rfl⟩
abbrev main_v250 : Ref sig .tc := ⟨.hbm, 377, rfl⟩
abbrev main_v251 : Ref sig .tc := ⟨.hbm, 378, rfl⟩
abbrev main_v252 : Ref sig .tc := ⟨.hbm, 379, rfl⟩
abbrev main_v253 : Ref sig .tc := ⟨.hbm, 380, rfl⟩
abbrev main_v254 : Ref sig .tc := ⟨.hbm, 381, rfl⟩
abbrev main_cst_71 : Ref sig .tc := ⟨.hbm, 382, rfl⟩
abbrev main_v255 : Ref sig .tc := ⟨.hbm, 383, rfl⟩
abbrev main_v256 : Ref sig .tc := ⟨.hbm, 384, rfl⟩
abbrev main_v257 : Ref sig .tc := ⟨.hbm, 385, rfl⟩
abbrev main_v258 : Ref sig .tc := ⟨.hbm, 386, rfl⟩
abbrev main_v259 : Ref sig .tc := ⟨.hbm, 387, rfl⟩
abbrev main_v260 : Ref sig .tc := ⟨.hbm, 388, rfl⟩

abbrev nD : Nat := 1
abbrev τ : Topo := Topo.v7x

variable {F : FTy → Type} [FloatOps F]
-- ==== Proof.Body.lean ====
/-
  The kernel body's output as a composition of eight equal heads.

  The printed body spells out every head's eight sampling points. Here the points and the heads are one definition each, at a
  head and a point that are variables, and `out0_14_eq` says what the body leaves in its output block is that composition.
-/
module

public import proofs.«01_k».proof.Proof.Gen.KernelIdeal.Frame
public import Idealize.ShloMosaic.Lib.Pipeline.ValueKit

@[expose] public section

set_option maxRecDepth 65536

noncomputable section

namespace Cert.KernelIdeal.Body

open Idealize.ShloMosaic Idealize.ShloMosaic.TcCoe Idealize.SL.Sem
open Cert.KernelIdeal Cert.KernelIdeal.Gen

variable {F : FTy → Type} [FloatOps F]

theorem slices_off (h p c : Fin 8) (hc : c.val < 2) : S64x128.Slices ![0, h.val * 16 + p.val * 2 + c.val] S64x1 := by
  revert h p c; decide

theorem slices_aw (h p : Fin 8) : S64x64.Slices ![0, h.val * 8 + p.val] S64x1 := by
  revert h p; decide

theorem slices_v (h : Fin 8) : S1024x512.Slices ![0, h.val * 64] S1024x64 := by
  revert h; decide

/-- One coordinate of the sampling point `p` of head `h` at every query, on the scale of the map. -/
def coordCol (off : FVec F S64x128 .f32) (h p c : Fin 8) (hc : c.val < 2) : FVec F S64x1 .f32 :=
  mulf (addf (extractStridedSlice S64x1 ![0, h.val * 16 + p.val * 2 + c.val] off (slices_off h p c hc))
    (broadcast S64x1 (Scalar.ofBits .f32 0x3F800000#32))) (broadcast S64x1 (Scalar.ofBits .f32 0x41780000#32))

/-- The hat function around a column of coordinates, at every pixel coordinate of a row. -/
def hats (g : FVec F S1x1024 .f32) (t : FVec F S64x1 .f32) : FVec F S64x1024 .f32 :=
  maximumf (broadcast S64x1024 (Scalar.ofBits .f32 0x00000000#32))
    (subf (broadcast S64x1024 (Scalar.ofBits .f32 0x3F800000#32))
      (absf (subf (broadcastTo S64x1024 g broadcasts_S1x1024_S64x1024) (broadcastTo S64x1024 t broadcasts_S64x1_S64x1024))))

/-- The weights point `p` of head `h` gives the pixels, at every query. -/
def tap (aw : FVec F S64x64 .f32) (off : FVec F S64x128 .f32) (gx gy : FVec F S1x1024 .f32) (h p : Fin 8) :
    FVec F S64x1024 .f32 :=
  mulf (mulf (broadcastTo S64x1024 (extractStridedSlice S64x1 ![0, h.val * 8 + p.val] aw (slices_aw h p)) broadcasts_S64x1_S64x1024)
    (hats gx (coordCol off h p 0 (by decide)))) (hats gy (coordCol off h p 1 (by decide)))

/-- The weights head `h` gives the pixels: its eight points' added up. -/
def acc (aw : FVec F S64x64 .f32) (off : FVec F S64x128 .f32) (gx gy : FVec F S1x1024 .f32) (h : Fin 8) :
    FVec F S64x1024 .f32 :=
  addf (addf (addf (addf (addf (addf (addf (tap aw off gx gy h 0) (tap aw off gx gy h 1)) (tap aw off gx gy h 2))
    (tap aw off gx gy h 3)) (tap aw off gx gy h 4)) (tap aw off gx gy h 5)) (tap aw off gx gy h 6)) (tap aw off gx gy h 7)

/-- Head `h`'s samples at every query: its weights against its columns of the values. -/
def head (v : FVec F S1024x512 .f32) (aw : FVec F S64x64 .f32) (off : FVec F S64x128 .f32) (gx gy : FVec F S1x1024 .f32)
    (h : Fin 8) : FVec F S64x64 .f32 :=
  matmul dot_S64x1024_S1024x64_S64x64_1_0_0_1_n_n none (acc aw off gx gy h)
    (extractStridedSlice S1024x64 ![0, h.val * 64] v (slices_v h)) (constant S64x64 .f32 0x00000000#32)

/-- The column of every pixel, as a row of floats. -/
def gxRow : FVec F S1x1024 .f32 := k0_pay12 (F := F) k0_pay9 k0_pay10 k0_pay11

/-- The output block: the heads side by side, projected, the bias added. -/
def outBlock (v : FVec F S1024x512 .f32) (aw : FVec F S64x64 .f32) (off : FVec F S64x128 .f32)
    (w : FVec F S512x768 .f32) (b : FVec F S1x768 .f32) : FVec F S1x64x768 .f32 :=
  shapeCast S1x64x768
    (addf
      (matmul dot_S64x512_S512x768_S64x768_1_0_0_1_n_n none
        (concatenate S64x512 1
          [⟨S64x64, head v aw off gxRow k0_pay13 0⟩, ⟨S64x64, head v aw off gxRow k0_pay13 1⟩, ⟨S64x64, head v aw off gxRow k0_pay13 2⟩,
            ⟨S64x64, head v aw off gxRow k0_pay13 3⟩, ⟨S64x64, head v aw off gxRow k0_pay13 4⟩, ⟨S64x64, head v aw off gxRow k0_pay13 5⟩,
            ⟨S64x64, head v aw off gxRow k0_pay13 6⟩, ⟨S64x64, head v aw off gxRow k0_pay13 7⟩]
          concatenates_S64x64_S64x64_S64x64_S64x64_S64x64_S64x64_S64x64_S64x64_S64x512_d1)
        w (constant S64x768 .f32 0x00000000#32))
      (broadcastTo S64x768 (shapeCast S1x768 b shapeCasts_S1x768_S1x768) broadcasts_S1x768_S64x768))
    shapeCasts_S64x768_S1x64x768

/-- What the body leaves in its output block is the composition of the eight heads. -/
theorem out0_14_eq (x0 x1 : Vec F S1x64x768 .f32) (x2 : Vec F S1x1024x768 .f32) (x3 : Vec F S768x512 .f32)
    (x4 : Vec F S768x768 .f32) (x5 : Vec F S1x768 .f32) (x6 : Vec F S768x128 .f32) (x7 : Vec F S1x128 .f32)
    (x8 : Vec F S768x768 .f32) (x9 : Vec F S1x768 .f32) (x10 : Vec F S768x64 .f32) (x11 : Vec F S1x64 .f32)
    (x12 : Vec F S512x768 .f32) (x13 : Vec F S1x768 .f32) :
    out0_14 x0 x1 x2 x3 x4 x5 x6 x7 x8 x9 x10 x11 x12 x13
      = View.canon [⟨r0_0, outBlock (k0_pay3 (View.ld x2 r0_1) (View.ld x3 r0_2))
          (k0_pay7 (k0_pay4 (View.ld x0 r0_0) (View.ld x8 r0_3) (View.ld x9 r0_4) (View.ld x10 r0_5) (View.ld x11 r0_6))
            (k0_pay6 (iota .tc S64x64 32 [0] iota_S64x64_d0_w32) 8#32 k0_pay5 0#32))
          (k0_pay8 (k0_pay2 (View.ld x1 r0_0)) (View.ld x4 r0_3) (View.ld x5 r0_4) (View.ld x6 r0_7) (View.ld x7 r0_8))
          (View.ld x12 r0_9) (View.ld x13 r0_4)⟩] := by
  rfl

end Cert.KernelIdeal.Body
-- ==== Proof.IntGrid.lean ====
/-
  The integer grids of the kernel body, evaluated: the diagonal blocks of the normalizer's mask, and the row and the
  column of every pixel.
-/
module

public import proofs.«01_k».proof.Proof.Body
public import Idealize.ShloMosaic.Lib.Pointwise

@[expose] public section

set_option maxRecDepth 16384

noncomputable section

namespace Cert.KernelIdeal.Body

open Idealize.ShloMosaic Idealize.ShloMosaic.TcCoe Idealize.SL.Sem
open Cert.KernelIdeal Cert.KernelIdeal.Gen

/-- Division by eight, rounded down, as the body computes it on words. -/
def floorDiv8 (a : BitVec 32) : BitVec 32 :=
  Scalar.select
    (IntOp.andi
      (IntOp.cmpi .ne
        (IntOp.subi (BitVec.setWidth 32 (IntOp.cmpi .sgt a 0#32)) (BitVec.setWidth 32 (IntOp.cmpi .slt a 0#32)))
        (Scalar.subi (Scalar.extui (Scalar.cmpi .sgt 8#32 0#32)) (Scalar.extui (Scalar.cmpi .slt 8#32 0#32))))
      (IntOp.cmpi .ne (IntOp.remsi .vector a 8#32) 0#32))
    (IntOp.subi (IntOp.divsi .vector a 8#32) 1#32) (IntOp.divsi .vector a 8#32)

theorem floorDiv8_at : ∀ k : Fin 64, floorDiv8 (BitVec.ofNat 32 k.val) = BitVec.ofNat 32 (k.val / 8) := by
  decide +kernel

/-- The mask of the eight-by-eight diagonal blocks. -/
theorem mask_at (k j : Fin 64) : k0_pay6 (iota .tc S64x64 32 [0] iota_S64x64_d0_w32) 8#32 k0_pay5 0#32 (ix2 k j)
    = IntOp.cmpi .eq (floorDiv8 (BitVec.ofNat 32 k.val)) (floorDiv8 (BitVec.ofNat 32 j.val)) := by
  pointwise [k0_pay6, k0_pay5, floorDiv8]

/-- The integer column of a pixel. -/
theorem gx_int : ∀ g : Fin 1024, select k0_pay10 (addi k0_pay9 k0_pay11) k0_pay9 (ix2 0 g) = BitVec.ofNat 32 (g.val % 32) := by
  decide +kernel

/-- The integer row of a pixel. -/
theorem gy_int : ∀ g : Fin 1024,
      (Scalar.select
        (IntOp.andi
          (IntOp.cmpi CmpIPredicate.ne
            (IntOp.subi (BitVec.setWidth 32 (IntOp.cmpi CmpIPredicate.sgt (BitVec.ofNat 32 ↑g) 0#32))
              (BitVec.setWidth 32 (IntOp.cmpi CmpIPredicate.slt (BitVec.ofNat 32 ↑g) 0#32)))
            (Scalar.subi (Scalar.extui (Scalar.cmpi CmpIPredicate.sgt 32#32 0#32))
              (Scalar.extui (Scalar.cmpi CmpIPredicate.slt 32#32 0#32))))
          (IntOp.cmpi CmpIPredicate.ne (IntOp.remsi ArithUnit.vector (BitVec.ofNat 32 ↑g) 32#32) 0#32))
        (IntOp.subi (IntOp.divsi ArithUnit.vector (BitVec.ofNat 32 ↑g) 32#32) 1#32)
        (IntOp.divsi ArithUnit.vector (BitVec.ofNat 32 ↑g) 32#32)) = BitVec.ofNat 32 (g.val / 32) := by
  decide +kernel

end Cert.KernelIdeal.Body
-- ==== Proof.Scalars.lean ====
/-
  The scalar mathematics of the two programs on the extended reals: the float literals they print, which computations
  stay real, the two spellings of the exact GELU, the range of `tanh`, and the softmax with and without the subtraction
  of the largest logit.
-/
module

public import Idealize.ShloMosaic.Lib.Pipeline.ValueKit
public import Idealize.ShloMosaic.Lib.Pointwise

@[expose] public section

noncomputable section

namespace Cert.Scalars

open Idealize.ShloMosaic

/-! ## Literals -/

/-- The pattern of one half. -/
theorem lit_half : Ideal.ofBits .f32 0x3F000000#32 = ((1 / 2 : ℝ) : EReal) := by
  simp [Ideal.ofBits, Ideal.ieee, -EReal.coe_mul]; norm_num

/-- The pattern of fifteen and a half. -/
theorem lit_half31 : Ideal.ofBits .f32 0x41780000#32 = ((31 / 2 : ℝ) : EReal) := by
  simp [Ideal.ofBits, Ideal.ieee, -EReal.coe_mul]; norm_num

/-- The pattern of thirty-one. -/
theorem lit_31 : Ideal.ofBits .f32 0x41F80000#32 = ((31 : ℝ) : EReal) := by
  simp [Ideal.ofBits, Ideal.ieee, -EReal.coe_mul]; norm_num

/-- The pattern of one. -/
theorem lit_one : Ideal.ofBits .f32 0x3F800000#32 = ((1 : ℝ) : EReal) := by
  simp [Ideal.ofBits, Ideal.ieee, -EReal.coe_mul]; norm_num

/-- The pattern of minus infinity. -/
theorem lit_bot : Ideal.ofBits .f32 0xFF800000#32 = (⊥ : EReal) := by
  simp [Ideal.ofBits, Ideal.ieee]

/-- The pattern of infinity. -/
theorem lit_top : Ideal.ofBits .f32 0x7F800000#32 = (⊤ : EReal) := by
  simp [Ideal.ofBits, Ideal.ieee]

/-! ## Real extended reals -/

/-- A finite sum of reals, read as an extended real, is the sum of the extended reals. -/
theorem coe_sum {ι : Type*} (s : Finset ι) (r : ι → ℝ) : ((∑ i ∈ s, r i : ℝ) : EReal) = ∑ i ∈ s, (r i : EReal) := by
  classical
  induction s using Finset.induction_on with
  | empty => simp
  | insert i s hi ih => rw [Finset.sum_insert hi, Finset.sum_insert hi, EReal.coe_add, ih]

/-- An extended real that is a real number. -/
def Real? (x : EReal) : Prop := ∃ r : ℝ, x = (r : EReal)

theorem Real?.coe (r : ℝ) : Real? (r : EReal) := ⟨r, rfl⟩

theorem Real?.eq {x : EReal} : Real? x → x = (x.toReal : EReal) := by
  rintro ⟨r, rfl⟩; rw [EReal.toReal_coe]

theorem Real?.of_ne {x : EReal} (h : x ≠ ⊤) (h' : x ≠ ⊥) : Real? x := ⟨x.toReal, (EReal.coe_toReal h h').symm⟩

theorem Real?.add {x y : EReal} : Real? x → Real? y → Real? (x + y) := by
  rintro ⟨a, rfl⟩ ⟨b, rfl⟩; exact ⟨a + b, (EReal.coe_add a b).symm⟩

theorem Real?.mul {x y : EReal} : Real? x → Real? y → Real? (x * y) := by
  rintro ⟨a, rfl⟩ ⟨b, rfl⟩; exact ⟨a * b, (EReal.coe_mul a b).symm⟩

theorem Real?.sum {ι : Type*} (s : Finset ι) (f : ι → EReal) (h : ∀ i, Real? (f i)) : Real? (∑ i ∈ s, f i) := by
  choose r hr using h
  exact ⟨∑ i ∈ s, r i, by rw [coe_sum, Finset.sum_congr rfl fun i _ => hr i]⟩

theorem Real?.erf {x : EReal} : Real? x → Real? (Ideal.erf x) := by
  rintro ⟨a, rfl⟩; exact ⟨_, Ideal.erf_coe a⟩

/-- The pattern of the reciprocal of the square root of two denotes a real. -/
theorem Real?.lit_rsqrt2 : Real? (Ideal.ofBits .f32 0x3F3504F3#32) := by
  refine .of_ne ?_ ?_ <;> simp [Ideal.ofBits, Ideal.ieee, -EReal.coe_mul]

/-- An absolute value below infinity is a real's. -/
theorem Real?.of_abs_lt {x : EReal} (h : max x (-x) < ⊤) : Real? x := by
  refine .of_ne ?_ ?_
  · rintro rfl; simp at h
  · rintro rfl; simp at h

/-- The largest of a non-empty family of reals, folded from minus infinity, is a real. -/
theorem Real?.fold_max {ι : Type*} (s : Finset ι) (hs : s.Nonempty) (f : ι → EReal) (h : ∀ i, Real? (f i)) :
    Real? (s.fold max ⊥ f) := by
  obtain ⟨i, hi⟩ := hs
  obtain ⟨r, hr⟩ := h i
  refine .of_ne (ne_of_lt ((Finset.fold_max_lt _).mpr ⟨bot_lt_top, fun j _ => ?_⟩))
    (ne_of_gt ((Finset.lt_fold_max _).mpr (Or.inr ⟨i, hi, ?_⟩)))
  · obtain ⟨q, hq⟩ := h j
    rw [hq]; exact EReal.coe_lt_top q
  · rw [hr]; exact EReal.bot_lt_coe r

/-! ## The exact GELU -/

/-- The exact GELU, as the kernel spells it. -/
def gelu (z : EReal) : EReal :=
  Ideal.ofBits .f32 0x3F000000#32 * z * (1 + Ideal.erf (z * Ideal.ofBits .f32 0x3F3504F3#32))

/-- The spelling through the complementary error function is the same function. -/
theorem gelu_erfc (z : EReal) :
    Ideal.ofBits .f32 0x3F000000#32 * z * Ideal.erfc (-z * Ideal.ofBits .f32 0x3F3504F3#32) = gelu z := by
  rw [gelu, EReal.neg_mul, Ideal.erfc_neg]

theorem Real?.gelu {z : EReal} (h : Real? z) : Real? (gelu z) := by
  unfold Scalars.gelu
  rw [lit_half]
  exact ((Real?.coe _).mul h).mul ((Real?.coe 1).add (h.mul .lit_rsqrt2).erf)

/-! ## `tanh` -/

/-- `tanh` of an extended real, as a real. -/
def tanhR (z : EReal) : ℝ := (Ideal.tanh z).toReal

theorem tanh_eq (z : EReal) : Ideal.tanh z = (tanhR z : EReal) := by
  unfold tanhR
  induction z with
  | bot => show (-1 : EReal) = _; exact (EReal.coe_toReal (x := (-1 : EReal)) (by decide) (by decide)).symm
  | top => show (1 : EReal) = _; exact (EReal.coe_toReal (x := (1 : EReal)) (by decide) (by decide)).symm
  | coe r => rw [Ideal.tanh_coe, EReal.toReal_coe]

theorem tanhR_mem (z : EReal) : -1 ≤ tanhR z ∧ tanhR z ≤ 1 := by
  unfold tanhR
  induction z with
  | bot => show -1 ≤ (-1 : EReal).toReal ∧ (-1 : EReal).toReal ≤ 1; simp
  | top => show -1 ≤ (1 : EReal).toReal ∧ (1 : EReal).toReal ≤ 1; simp
  | coe r =>
    rw [Ideal.tanh_coe, EReal.toReal_coe]
    exact ⟨(Real.neg_one_lt_tanh r).le, (Real.tanh_lt_one r).le⟩

/-- The map coordinate of a `tanh` output. -/
def coord (z : EReal) : ℝ := (tanhR z + 1) * (31 / 2)

theorem coord_mem (z : EReal) : 0 ≤ coord z ∧ coord z ≤ 31 := by
  have h := tanhR_mem z
  unfold coord
  constructor <;> linarith

/-- The kernel's spelling of the map coordinate. -/
theorem coord_kernel (z : EReal) :
    (Ideal.tanh z + Ideal.ofBits .f32 0x3F800000#32) * Ideal.ofBits .f32 0x41780000#32 = (coord z : EReal) := by
  rw [tanh_eq, lit_one, lit_half31, ← EReal.coe_add, ← EReal.coe_mul, coord]

/-- The reference's spelling of the map coordinate. -/
theorem coord_reference (z : EReal) :
    (Ideal.tanh z + Ideal.ofBits .f32 0x3F800000#32) * Ideal.ofBits .f32 0x3F000000#32 * Ideal.ofBits .f32 0x41F80000#32
      = (coord z : EReal) := by
  rw [tanh_eq, lit_one, lit_half, lit_31, ← EReal.coe_add, ← EReal.coe_mul, ← EReal.coe_mul, coord]
  congr 1; ring

/-! ## Softmax -/

/-- A quotient of reals by a real that is not zero. -/
theorem div_real (a : ℝ) {b : ℝ} (hb : b ≠ 0) : Ideal.div (a : EReal) (b : EReal) = ((a / b : ℝ) : EReal) := by
  rw [Ideal.div_coe hb, ← EReal.coe_mul, mul_one_div]

/-- The softmax weight of a real family. -/
def soft (l : Fin 8 → ℝ) (p : Fin 8) : ℝ := Real.exp (l p) / ∑ q, Real.exp (l q)

theorem soft_nonneg (l : Fin 8 → ℝ) (p : Fin 8) : 0 ≤ soft l p :=
  div_nonneg (Real.exp_pos _).le (Finset.sum_nonneg fun _ _ => (Real.exp_pos _).le)

theorem sum_exp_ne (l : Fin 8 → ℝ) : ∑ q, Real.exp (l q) ≠ 0 :=
  (Finset.sum_pos (fun q _ => Real.exp_pos (l q)) Finset.univ_nonempty).ne'

/-- The softmax without a shift. -/
theorem soft_plain (l : Fin 8 → ℝ) (p : Fin 8) :
    Ideal.div (Ideal.exp (l p : EReal)) (∑ q, Ideal.exp (l q : EReal)) = (soft l p : EReal) := by
  simp only [Ideal.exp_coe]
  rw [← coe_sum, div_real _ (sum_exp_ne l), soft]

/-- The softmax of the logits with one real subtracted from each. -/
theorem soft_shift (l : Fin 8 → ℝ) (m : ℝ) (p : Fin 8) :
    Ideal.div (Ideal.exp ((l p : EReal) - (m : EReal))) (∑ q, Ideal.exp ((l q : EReal) - (m : EReal))) = (soft l p : EReal) := by
  simp only [← EReal.coe_sub]
  rw [soft_plain (fun q => l q - m) p]
  unfold soft
  simp only [Real.exp_sub]
  rw [← Finset.sum_div, div_div_div_cancel_right₀ (Real.exp_pos m).ne']

end Cert.Scalars
-- ==== Proof.Sampling.lean ====
/-
  Bilinear sampling of a 32 × 32 map, as mathematics on the extended reals.

  A sampling point `(x, y)` in `[0, 31]²` weighs the pixel `(i, j)` by the product of two hat functions. Summed over all
  the pixels that is the sum over the four corners around the point, each corner with its weight, and the corner that
  falls off the map with weight zero. The values on the map are any extended reals; the weights are non-negative reals,
  so the products distribute over the sums.
-/
module

public import Idealize.ShloMosaic.Lib.Pipeline.ValueKit

@[expose] public section

noncomputable section

namespace Cert.Sampling

/-- A non-negative real distributes over a sum of two extended reals. -/
theorem coe_mul_add {c : ℝ} (hc : 0 ≤ c) (a b : EReal) : (c : EReal) * (a + b) = c * a + c * b :=
  EReal.left_distrib_of_nonneg_of_ne_top (EReal.coe_nonneg.mpr hc) (EReal.coe_ne_top c) a b

/-- A non-negative real distributes over a finite sum of extended reals. -/
theorem coe_mul_sum {ι : Type*} (s : Finset ι) {c : ℝ} (hc : 0 ≤ c) (f : ι → EReal) :
    (c : EReal) * ∑ i ∈ s, f i = ∑ i ∈ s, (c : EReal) * f i := by
  classical
  induction s using Finset.induction_on with
  | empty => simp
  | insert i s hi ih => rw [Finset.sum_insert hi, Finset.sum_insert hi, coe_mul_add hc, ih]

/-- A sum of non-negative reals times an extended real is the sum of the products. -/
theorem sum_coe_mul {ι : Type*} (s : Finset ι) (c : ι → ℝ) (hc : ∀ i, 0 ≤ c i) (v : EReal) :
    (∑ i ∈ s, (c i : EReal)) * v = ∑ i ∈ s, (c i : EReal) * v := by
  classical
  induction s using Finset.induction_on with
  | empty => simp
  | insert i s hi ih =>
    rw [Finset.sum_insert hi, Finset.sum_insert hi,
      EReal.right_distrib_of_nonneg (EReal.coe_nonneg.mpr (hc i))
        (Finset.sum_nonneg fun j _ => EReal.coe_nonneg.mpr (hc j)), ih]

/-- The hat function of width one around `t`. -/
def hat (t g : ℝ) : ℝ := max 0 (1 - |g - t|)

theorem hat_nonneg (t g : ℝ) : 0 ≤ hat t g := le_max_left _ _

/-- The pixel at or below a coordinate, kept on the map. -/
def lo (t : ℝ) : Fin 32 := ⟨min ⌊t⌋.toNat 31, by omega⟩

/-- The pixel above a coordinate, kept on the map. -/
def hi (t : ℝ) : Fin 32 := ⟨min (⌊t⌋ + 1).toNat 31, by omega⟩

/-- Whether the pixel above a coordinate is on the map, as a number. -/
def on (t : ℝ) : ℝ := if ⌊t⌋ + 1 ≤ 31 then 1 else 0

theorem on_nonneg (t : ℝ) : 0 ≤ on t := by unfold on; split <;> norm_num

/-- Along one axis, the hats around a coordinate weigh the two pixels beside it. -/
theorem sum_hat {t : ℝ} (h0 : 0 ≤ t) (h1 : t ≤ 31) (f : Fin 32 → EReal) :
    ∑ g : Fin 32, ((hat t (g.val : ℝ) : ℝ) : EReal) * f g
      = ((1 - (t - ⌊t⌋) : ℝ) : EReal) * f (lo t) + (((t - ⌊t⌋) * on t : ℝ) : EReal) * f (hi t) := by
  obtain ⟨n, hn⟩ : ∃ n : ℕ, ⌊t⌋ = (n : ℤ) := ⟨⌊t⌋.toNat, (Int.toNat_of_nonneg (Int.floor_nonneg.mpr h0)).symm⟩
  have hle : (n : ℝ) ≤ t := by have := Int.floor_le t; rw [hn] at this; exact_mod_cast this
  have hlt : t < (n : ℝ) + 1 := by have := Int.lt_floor_add_one t; rw [hn] at this; exact_mod_cast this
  have hn31 : n ≤ 31 := by
    have : (n : ℝ) ≤ 31 := hle.trans h1
    exact_mod_cast this
  have hlo : lo t = ⟨n, by omega⟩ := Fin.ext (by simp only [lo, hn]; omega)
  have hhi : hi t = ⟨min (n + 1) 31, by omega⟩ := Fin.ext (by simp only [hi, hn]; omega)
  have hfl : ((⌊t⌋ : ℤ) : ℝ) = n := by rw [hn]; simp
  -- away from the two pixels the hat is zero
  have hz : ∀ g : Fin 32, g.val ≠ n → g.val ≠ n + 1 → hat t (g.val : ℝ) = 0 := by
    intro g hg hg'
    refine max_eq_left ?_
    rcases lt_or_gt_of_ne hg with hl | hl
    · have : (g.val : ℝ) + 1 ≤ n := by exact_mod_cast hl
      have := neg_abs_le ((g.val : ℝ) - t)
      linarith
    · have h2 : n + 2 ≤ g.val := by omega
      have : (n : ℝ) + 2 ≤ g.val := by exact_mod_cast h2
      have := le_abs_self ((g.val : ℝ) - t)
      linarith
  have hat_n : hat t (n : ℝ) = 1 - (t - n) := by
    unfold hat
    rw [abs_of_nonpos (by linarith), max_eq_right (by linarith)]
    ring
  rw [hlo, hhi, hfl]
  by_cases hn' : n < 31
  · have hat_s : hat t ((n + 1 : ℕ) : ℝ) = t - n := by
      unfold hat
      push_cast
      rw [abs_of_nonneg (by linarith), max_eq_right (by linarith)]
      ring
    have hon : on t = 1 := if_pos (by rw [hn]; omega)
    have hmin : (⟨min (n + 1) 31, by omega⟩ : Fin 32) = ⟨n + 1, by omega⟩ := Fin.ext (by simp only; omega)
    rw [Finset.sum_eq_add (⟨n, by omega⟩ : Fin 32) ⟨n + 1, by omega⟩ (by simp) (fun g _ hg => by
      rw [hz g (fun h => hg.1 (Fin.ext h)) (fun h => hg.2 (Fin.ext h)), EReal.coe_zero, zero_mul])
      (fun h => absurd (Finset.mem_univ _) h) (fun h => absurd (Finset.mem_univ _) h), hon, hmin, mul_one]
    simp only
    rw [hat_n, hat_s]
  · have hn31' : n = 31 := by omega
    subst hn31'
    have ht : t = 31 := le_antisymm h1 (by exact_mod_cast hle)
    rw [Finset.sum_eq_single (⟨31, by omega⟩ : Fin 32) (fun g _ hg => by
      have := g.isLt
      rw [hz g (fun h => hg (Fin.ext h)) (by omega), EReal.coe_zero, zero_mul])
      (fun h => absurd (Finset.mem_univ _) h)]
    simp only
    rw [hat_n, ht]
    simp

/-- The four corners around a point, each with its weight: what bilinear sampling with zero padding gathers. -/
def corners (x y : ℝ) (f : Fin 32 → Fin 32 → EReal) : EReal :=
  f (lo y) (lo x) * ((((1 - (y - ⌊y⌋)) * (1 - (x - ⌊x⌋))) : ℝ) : EReal)
    + f (lo y) (hi x) * ((((1 - (y - ⌊y⌋)) * (x - ⌊x⌋)) * on x : ℝ) : EReal)
    + f (hi y) (lo x) * ((((y - ⌊y⌋) * (1 - (x - ⌊x⌋))) * on y : ℝ) : EReal)
    + f (hi y) (hi x) * ((((y - ⌊y⌋) * (x - ⌊x⌋)) * (on x * on y) : ℝ) : EReal)

/-- Over the whole map, the products of two hats around a point weigh the four corners. -/
theorem sum_hat_hat {x y : ℝ} (hx0 : 0 ≤ x) (hx1 : x ≤ 31) (hy0 : 0 ≤ y) (hy1 : y ≤ 31) (f : Fin 32 → Fin 32 → EReal) :
    ∑ i : Fin 32, ∑ j : Fin 32, ((hat x (j.val : ℝ) * hat y (i.val : ℝ) : ℝ) : EReal) * f i j = corners x y f := by
  have hfx := Int.floor_le x
  have hfx' := Int.lt_floor_add_one x
  have hfy := Int.floor_le y
  have hfy' := Int.lt_floor_add_one y
  have e : ∀ i : Fin 32, ∑ j : Fin 32, ((hat x (j.val : ℝ) * hat y (i.val : ℝ) : ℝ) : EReal) * f i j
      = ((hat y (i.val : ℝ) : ℝ) : EReal) * ∑ j : Fin 32, ((hat x (j.val : ℝ) : ℝ) : EReal) * f i j := by
    intro i
    rw [coe_mul_sum _ (hat_nonneg _ _)]
    refine Finset.sum_congr rfl fun j _ => ?_
    rw [← mul_assoc, ← EReal.coe_mul, mul_comm (hat y _)]
  rw [Finset.sum_congr rfl fun i _ => e i, sum_hat hy0 hy1, sum_hat hx0 hx1, sum_hat hx0 hx1,
    coe_mul_add (by linarith), coe_mul_add (mul_nonneg (by linarith) (on_nonneg y))]
  simp only [← mul_assoc, ← EReal.coe_mul]
  rw [← add_assoc, corners, mul_comm (f (lo y) (lo x)), mul_comm (f (lo y) (hi x)), mul_comm (f (hi y) (lo x)),
    mul_comm (f (hi y) (hi x))]
  congr 3 <;> ring_nf

/-- The pixel of a 32 × 32 map at row `i`, column `j` of its row-major order. -/
def pix (i j : Fin 32) : Fin 1024 := ⟨i.val * 32 + j.val, by omega⟩

/-- A sum over the 1024 pixels is the sum over the rows of the sums over the columns. -/
theorem sum_pix (F : Fin 1024 → EReal) : ∑ g : Fin 1024, F g = ∑ i : Fin 32, ∑ j : Fin 32, F (pix i j) := by
  rw [← Fintype.sum_prod_type' (f := fun i j => F (pix i j))]
  exact (Fintype.sum_equiv (finProdFinEquiv : Fin 32 × Fin 32 ≃ Fin 1024) _ _ fun q =>
    congrArg F (Fin.ext (by
      show q.1.val * 32 + q.2.val = q.2.val + 32 * q.1.val
      omega))).symm

/-- One head's samples, summed over its eight points: weighing every pixel by the points' hats and summing over the
    pixels is the weighted sum of the points' bilinear samples. -/
theorem sum_points (a x y : Fin 8 → ℝ) (ha : ∀ p, 0 ≤ a p) (hx : ∀ p, 0 ≤ x p ∧ x p ≤ 31) (hy : ∀ p, 0 ≤ y p ∧ y p ≤ 31)
    (f : Fin 1024 → EReal) :
    ∑ g : Fin 1024, (∑ p : Fin 8, ((a p * hat (x p) ((g.val % 32 : ℕ) : ℝ) * hat (y p) ((g.val / 32 : ℕ) : ℝ) : ℝ) : EReal)) * f g
      = ∑ p : Fin 8, (a p : EReal) * corners (x p) (y p) fun i j => f (pix i j) := by
  have e : ∀ g : Fin 1024,
      (∑ p : Fin 8, ((a p * hat (x p) ((g.val % 32 : ℕ) : ℝ) * hat (y p) ((g.val / 32 : ℕ) : ℝ) : ℝ) : EReal)) * f g
        = ∑ p : Fin 8, (a p : EReal) * (((hat (x p) ((g.val % 32 : ℕ) : ℝ) * hat (y p) ((g.val / 32 : ℕ) : ℝ) : ℝ) : EReal) * f g) := by
    intro g
    rw [sum_coe_mul _ _ fun p => mul_nonneg (mul_nonneg (ha p) (hat_nonneg _ _)) (hat_nonneg _ _)]
    refine Finset.sum_congr rfl fun p _ => ?_
    rw [← mul_assoc, ← EReal.coe_mul, mul_assoc (a p)]
  rw [Finset.sum_congr rfl fun g _ => e g, Finset.sum_comm]
  refine Finset.sum_congr rfl fun p _ => ?_
  rw [← coe_mul_sum _ (ha p), sum_pix, ← sum_hat_hat (hx p).1 (hx p).2 (hy p).1 (hy p).2]
  refine congrArg _ (Finset.sum_congr rfl fun i _ => Finset.sum_congr rfl fun j _ => ?_)
  have h1 : (pix i j).val % 32 = j.val := by show (i.val * 32 + j.val) % 32 = _; omega
  have h2 : (pix i j).val / 32 = i.val := by show (i.val * 32 + j.val) / 32 = _; omega
  rw [h1, h2]

end Cert.Sampling
-- ==== Proof.Spec.lean ====
/-
  What both programs compute at one index of the result, on the extended reals.
-/
module

public import proofs.«01_k».proof.Proof.Scalars
public import proofs.«01_k».proof.Proof.Sampling

@[expose] public section

noncomputable section

namespace Cert.Spec

open Cert.Scalars Cert.Sampling

/-- The column of point `p` of head `h` among the logits. -/
def col (h p : Fin 8) : Fin 64 := ⟨h.val * 8 + p.val, by omega⟩

/-- The column of coordinate `c` of point `p` of head `h` among the offsets. -/
def colOff (h p : Fin 8) (c : Fin 2) : Fin 128 := ⟨h.val * 16 + p.val * 2 + c.val, by omega⟩

/-- The column of feature `d` of head `h` among the values. -/
def colV (h : Fin 8) (d : Fin 64) : Fin 512 := ⟨h.val * 64 + d.val, by omega⟩

/-- A column of a two-layer network with the exact GELU between the layers, at one row of inputs. -/
def net {K : ℕ} (X : Fin 768 → EReal) (W1 : Fin 768 → Fin 768 → EReal) (b1 : Fin 768 → EReal)
    (W2 : Fin 768 → Fin K → EReal) (b2 : Fin K → EReal) (k : Fin K) : EReal :=
  (∑ e : Fin 768, gelu ((∑ c : Fin 768, X c * W1 c e) + b1 e) * W2 e k) + b2 k

/-- The network's outputs on real inputs are real. -/
theorem net_real {K : ℕ} {X : Fin 768 → EReal} {W1 : Fin 768 → Fin 768 → EReal} {b1 : Fin 768 → EReal}
    {W2 : Fin 768 → Fin K → EReal} {b2 : Fin K → EReal} (hX : ∀ c, Real? (X c)) (hW1 : ∀ c e, Real? (W1 c e))
    (hb1 : ∀ e, Real? (b1 e)) (hW2 : ∀ e k, Real? (W2 e k)) (hb2 : ∀ k, Real? (b2 k)) (k : Fin K) :
    Real? (net X W1 b1 W2 b2 k) :=
  (Real?.sum _ _ fun e => (((Real?.sum _ _ fun c => (hX c).mul (hW1 c e)).add (hb1 e)).gelu).mul (hW2 e k)).add (hb2 k)

/-- The attention weight of point `p` of head `h`, of one query's logits. -/
def weight (L : Fin 64 → EReal) (h p : Fin 8) : ℝ := soft (fun q => (L (col h q)).toReal) p

/-- Feature `d` of head `h`'s samples for one query: the bilinear samples at the head's points, weighed and added up. -/
def sampled (L : Fin 64 → EReal) (Z : Fin 128 → EReal) (V : Fin 1024 → Fin 512 → EReal) (h : Fin 8) (d : Fin 64) : EReal :=
  ∑ p, (weight L h p : EReal) * corners (coord (Z (colOff h p 0))) (coord (Z (colOff h p 1))) fun i j => V (pix i j) (colV h d)

/-- Column `o` of the result for one query: the heads' samples through the projection, and the bias. -/
def out (L : Fin 64 → EReal) (Z : Fin 128 → EReal) (V : Fin 1024 → Fin 512 → EReal) (W : Fin 512 → Fin 768 → EReal)
    (b : Fin 768 → EReal) (o : Fin 768) : EReal :=
  (∑ k : Fin 512, sampled L Z V ⟨k.val / 64, by omega⟩ ⟨k.val % 64, by omega⟩ * W k o) + b o

end Cert.Spec
-- ==== Proof.KernelAt.lean ====
/-
  The kernel body's values read at an index, over the extended reals.
-/
module

public import proofs.«01_k».proof.Proof.IntGrid
public import proofs.«01_k».proof.Proof.Scalars
public import proofs.«01_k».proof.Proof.Sampling
public import proofs.«01_k».proof.Proof.Spec
public import Idealize.ShloMosaic.Lib.Pointwise

@[expose] public section

set_option maxRecDepth 16384

noncomputable section

namespace Cert.KernelIdeal.Body

open Idealize.ShloMosaic Idealize.ShloMosaic.TcCoe Idealize.SL.Sem
open Cert.KernelIdeal Cert.KernelIdeal.Gen Cert.Scalars Cert.Sampling Cert.Spec

/-! ## The grids as floats -/

/-- A small natural number through a word and back to a float is that number. -/
theorem sitofp_ofNat (n : ℕ) (h : n < 2 ^ 31) : FloatOps.sitofp (F := Ideal) .f32 (BitVec.ofNat 32 n) = ((n : ℝ) : EReal) := by
  show (((BitVec.ofNat 32 n).toInt : ℝ) : EReal) = _
  rw [BitVec.toInt_eq_toNat_of_lt (by rw [BitVec.toNat_ofNat]; omega), BitVec.toNat_ofNat, Nat.mod_eq_of_lt (by omega)]
  norm_cast

/-- The float column of a pixel. -/
theorem gx_at (g : Fin 1024) : gxRow (F := Ideal) (ix2 0 g) = (((g.val % 32 : ℕ) : ℝ) : EReal) := by
  rw [← sitofp_ofNat (g.val % 32) (by omega), ← gx_int g]
  pointwise [gxRow, k0_pay12]

/-- The float row of a pixel. -/
theorem gy_at (g : Fin 1024) : k0_pay13 (F := Ideal) (ix2 0 g) = (((g.val / 32 : ℕ) : ℝ) : EReal) := by
  rw [← sitofp_ofNat (g.val / 32) (by omega), ← gy_int g]
  pointwise [k0_pay13]

/-- The mask of the diagonal blocks, as a float. -/
theorem mask_real (k j : Fin 64) :
    FloatOps.sitofp (F := Ideal) .f32 (BitVec.setWidth 32
      (k0_pay6 (iota .tc S64x64 32 [0] iota_S64x64_d0_w32) 8#32 k0_pay5 0#32 (ix2 k j)))
      = if k.val / 8 = j.val / 8 then 1 else 0 := by
  rw [mask_at, floorDiv8_at, floorDiv8_at]
  by_cases h : k.val / 8 = j.val / 8
  · rw [if_pos h, h]
    simp [IntOp.cmpi, FloatOps.sitofp]
  · rw [if_neg h]
    have : ¬ BitVec.ofNat 32 (k.val / 8) = BitVec.ofNat 32 (j.val / 8) := fun e => h (by
      have := congrArg BitVec.toNat e
      simp only [BitVec.toNat_ofNat] at this
      omega)
    simp [IntOp.cmpi, FloatOps.sitofp, beq_eq_false_iff_ne.mpr this]

/-! ## The three networks -/

/-- The value of a pixel in a column. -/
theorem v_at (X : Vec Ideal S1x1024x768 .f32) (W : Vec Ideal S768x512 .f32) (g : Fin 1024) (k : Fin 512) :
    k0_pay3 X W (ix2 g k) = ∑ c : Fin 768, X (ix3 0 g c) * W (ix2 c k) := by
  pointwise [k0_pay3]

/-- The offsets, through `tanh`. -/
theorem off_at (X : Vec Ideal S1x64x768 .f32) (W1 : Vec Ideal S768x768 .f32) (b1 : Vec Ideal S1x768 .f32)
    (W2 : Vec Ideal S768x128 .f32) (b2 : Vec Ideal S1x128 .f32) (n : Fin 64) (k : Fin 128) :
    k0_pay8 (k0_pay2 X) W1 b1 W2 b2 (ix2 n k)
      = Ideal.tanh (net (fun c => X (ix3 0 n c)) (fun c e => W1 (ix2 c e)) (fun e => b1 (ix2 0 e)) (fun e k => W2 (ix2 e k)) (fun k => b2 (ix2 0 k)) k) := by
  pointwise [k0_pay8, k0_pay2, gelu, net]
  rfl

/-- The exponentials of the logits. -/
theorem exp_at (X : Vec Ideal S1x64x768 .f32) (W1 : Vec Ideal S768x768 .f32) (b1 : Vec Ideal S1x768 .f32)
    (W2 : Vec Ideal S768x64 .f32) (b2 : Vec Ideal S1x64 .f32) (n : Fin 64) (k : Fin 64) :
    k0_pay4 X W1 b1 W2 b2 (ix2 n k)
      = Ideal.exp (net (fun c => X (ix3 0 n c)) (fun c e => W1 (ix2 c e)) (fun e => b1 (ix2 0 e)) (fun e k => W2 (ix2 e k)) (fun k => b2 (ix2 0 k)) k) := by
  pointwise [k0_pay4, gelu, net]
  rfl

/-! ## The attention weights -/

/-- A sum over the columns, masked to one head's block, is the sum over the head's points. -/
theorem sum_block (h p : Fin 8) (f : Fin 64 → EReal) :
    ∑ x : Fin 64, f x * (if x.val / 8 = (col h p).val / 8 then (1 : EReal) else 0) = ∑ q : Fin 8, f (col h q) := by
  rw [← (finProdFinEquiv (m := 8) (n := 8)).sum_comp, Fintype.sum_prod_type]
  rw [Finset.sum_eq_single h]
  · refine Finset.sum_congr rfl fun q _ => ?_
    have e : finProdFinEquiv (m := 8) (n := 8) (h, q) = col h q := Fin.ext (by simp [col, finProdFinEquiv]; omega)
    rw [e, if_pos (by simp only [col]; omega), mul_one]
  · intro h' _ hne
    refine Finset.sum_eq_zero fun q _ => ?_
    rw [if_neg (fun e => hne (Fin.ext ?_)), mul_zero]
    simp [col, finProdFinEquiv] at e
    omega
  · exact fun h => absurd (Finset.mem_univ _) h

/-- The attention weight of a point, where the exponentials are those of real logits. -/
theorem aw_at (E : FVec Ideal S64x64 .f32) (n : Fin 64) (l : Fin 64 → ℝ) (hE : ∀ k, E (ix2 n k) = Ideal.exp (l k)) (h p : Fin 8) :
    k0_pay7 E (k0_pay6 (iota .tc S64x64 32 [0] iota_S64x64_d0_w32) 8#32 k0_pay5 0#32) (ix2 n (col h p))
      = (soft (fun q => l (col h q)) p : EReal) := by
  rw [← soft_plain]
  trans Ideal.div (E (ix2 n (col h p))) (∑ x : Fin 64, E (ix2 n x) * FloatOps.sitofp (F := Ideal) .f32 (BitVec.setWidth 32
      (k0_pay6 (iota .tc S64x64 32 [0] iota_S64x64_d0_w32) 8#32 k0_pay5 0#32 (ix2 x (col h p)))))
  · generalize k0_pay6 (iota .tc S64x64 32 [0] iota_S64x64_d0_w32) 8#32 k0_pay5 0#32 = M
    pointwise [k0_pay7]
  · rw [hE]
    congr 1
    rw [← sum_block h p fun x => Ideal.exp (l x)]
    exact Finset.sum_congr rfl fun x _ => congrArg₂ (· * ·) (hE x) (mask_real x (col h p))

/-! ## One head -/

theorem hats_at (g : FVec Ideal S1x1024 .f32) (t : FVec Ideal S64x1 .f32) (n : Fin 64) (j : Fin 1024) (a b : ℝ)
    (ha : g (ix2 0 j) = (a : EReal)) (hb : t (ix2 n 0) = (b : EReal)) : hats g t (ix2 n j) = (hat b a : EReal) := by
  pointwise [hats]
  rw [ha, hb, hat, Ideal.absf_def, ← EReal.coe_sub, ← EReal.coe_neg, ← EReal.coe_strictMono.monotone.map_max, ← abs_eq_max_neg, ← EReal.coe_one,
    ← EReal.coe_sub, ← EReal.coe_zero, ← EReal.coe_strictMono.monotone.map_max]

theorem coordCol_at (off : FVec Ideal S64x128 .f32) (n : Fin 64) (z : Fin 128 → EReal)
    (hz : ∀ k, off (ix2 n k) = Ideal.tanh (z k)) (h p : Fin 8) (c : Fin 2) :
    coordCol off h p ⟨c.val, by omega⟩ c.isLt (ix2 n 0) = (coord (z (colOff h p c)) : EReal) := by
  rw [← coord_kernel, ← hz]
  pointwise [coordCol, colOff]

theorem tap_at (aw : FVec Ideal S64x64 .f32) (off : FVec Ideal S64x128 .f32) (n : Fin 64) (A : Fin 8 → Fin 8 → ℝ)
    (hA : ∀ h p, aw (ix2 n (col h p)) = (A h p : EReal)) (z : Fin 128 → EReal)
    (hz : ∀ k, off (ix2 n k) = Ideal.tanh (z k)) (h p : Fin 8) (g : Fin 1024) :
    tap aw off gxRow k0_pay13 h p (ix2 n g)
      = ((A h p * hat (coord (z (colOff h p 0))) ((g.val % 32 : ℕ) : ℝ) * hat (coord (z (colOff h p 1))) ((g.val / 32 : ℕ) : ℝ) : ℝ) : EReal) := by
  rw [EReal.coe_mul, EReal.coe_mul, ← hats_at _ _ n g _ _ (gx_at g) (coordCol_at off n z hz h p 0),
    ← hats_at _ _ n g _ _ (gy_at g) (coordCol_at off n z hz h p 1), ← hA]
  pointwise [tap]
  rfl

theorem acc_at (aw : FVec Ideal S64x64 .f32) (off : FVec Ideal S64x128 .f32) (gx gy : FVec Ideal S1x1024 .f32)
    (h : Fin 8) (i : S64x1024.Idx) : acc aw off gx gy h i = ∑ p, tap aw off gx gy h p i := by
  rw [Fin.sum_univ_eight]; rfl

theorem head_at (v : FVec Ideal S1024x512 .f32) (aw : FVec Ideal S64x64 .f32) (off : FVec Ideal S64x128 .f32)
    (n : Fin 64) (A : Fin 8 → Fin 8 → ℝ) (hA : ∀ h p, aw (ix2 n (col h p)) = (A h p : EReal)) (hA0 : ∀ h p, 0 ≤ A h p)
    (z : Fin 128 → EReal) (hz : ∀ k, off (ix2 n k) = Ideal.tanh (z k)) (h : Fin 8) (d : Fin 64) :
    head v aw off gxRow k0_pay13 h (ix2 n d)
      = ∑ p, (A h p : EReal) * corners (coord (z (colOff h p 0))) (coord (z (colOff h p 1)))
          fun i j => v (ix2 (pix i j) (colV h d)) := by
  rw [← sum_points (A h) _ _ (hA0 h) (fun p => coord_mem _) (fun p => coord_mem _) fun g => v (ix2 g (colV h d))]
  simp only [← tap_at aw off n A hA z hz, ← acc_at]
  pointwise [head, colV]

/-! ## The output block -/

/-- The heads side by side, at a column. -/
theorem heads_at (f : Fin 8 → FVec Ideal S64x64 .f32) (n : Fin 64) (k : Fin 512) :
    concatenate S64x512 1
      [⟨S64x64, f 0⟩, ⟨S64x64, f 1⟩, ⟨S64x64, f 2⟩, ⟨S64x64, f 3⟩, ⟨S64x64, f 4⟩, ⟨S64x64, f 5⟩, ⟨S64x64, f 6⟩, ⟨S64x64, f 7⟩]
      concatenates_S64x64_S64x64_S64x64_S64x64_S64x64_S64x64_S64x64_S64x64_S64x512_d1 (ix2 n k)
      = f ⟨k.val / 64, by omega⟩ (ix2 n ⟨k.val % 64, by omega⟩) := by
  refine concatenate_ofFn_apply (s₁ := S64x64) (t := S64x512) 1 f
    concatenates_S64x64_S64x64_S64x64_S64x64_S64x64_S64x64_S64x64_S64x64_S64x512_d1 rfl 64 rfl (ix2 n k)
    ⟨k.val / 64, by omega⟩ rfl (ix2 n ⟨k.val % 64, by omega⟩) rfl fun b hb => ?_
  match b with
  | 0 => rfl
  | 1 => exact absurd rfl hb

/-- The output block at a query and a column: the heads' samples through the projection, and the bias. -/
theorem out_at (v : FVec Ideal S1024x512 .f32) (aw : FVec Ideal S64x64 .f32) (off : FVec Ideal S64x128 .f32)
    (w : FVec Ideal S512x768 .f32) (b : FVec Ideal S1x768 .f32) (n : Fin 64) (o : Fin 768) :
    outBlock v aw off w b (ix3 0 n o)
      = (∑ k : Fin 512, head v aw off gxRow k0_pay13 ⟨k.val / 64, by omega⟩ (ix2 n ⟨k.val % 64, by omega⟩) * w (ix2 k o)) + b (ix2 0 o) := by
  simp only [← heads_at fun h => head v aw off gxRow k0_pay13 h]
  unfold outBlock
  generalize concatenate S64x512 1 _ _ = s
  pointwise

end Cert.KernelIdeal.Body
-- ==== Proof.KernelOut.lean ====
/-
  What the kernel's body leaves in its output block, at an index, over the extended reals.
-/
module

public import proofs.«01_k».proof.Proof.KernelAt

@[expose] public section

set_option maxRecDepth 16384

noncomputable section

namespace Cert.KernelIdeal.Body

open Idealize.ShloMosaic Idealize.ShloMosaic.TcCoe Idealize.SL.Sem
open Cert.KernelIdeal Cert.KernelIdeal.Gen Cert.Scalars Cert.Sampling Cert.Spec

/-- The output block at a query and a column, where the query's logits are real. -/
theorem block_at (X0 X1 : Vec Ideal S1x64x768 .f32) (X2 : Vec Ideal S1x1024x768 .f32) (X3 : Vec Ideal S768x512 .f32)
    (X4 : Vec Ideal S768x768 .f32) (X5 : Vec Ideal S1x768 .f32) (X6 : Vec Ideal S768x128 .f32) (X7 : Vec Ideal S1x128 .f32)
    (X8 : Vec Ideal S768x768 .f32) (X9 : Vec Ideal S1x768 .f32) (X10 : Vec Ideal S768x64 .f32) (X11 : Vec Ideal S1x64 .f32)
    (X12 : Vec Ideal S512x768 .f32) (X13 : Vec Ideal S1x768 .f32) (n : Fin 64) (o : Fin 768)
    (hL : ∀ k, Real? (net (fun c => X0 (ix3 0 n c)) (fun c e => X8 (ix2 c e)) (fun e => X9 (ix2 0 e))
      (fun e k => X10 (ix2 e k)) (fun k => X11 (ix2 0 k)) k)) :
    outBlock (k0_pay3 X2 X3)
        (k0_pay7 (k0_pay4 X0 X8 X9 X10 X11) (k0_pay6 (iota .tc S64x64 32 [0] iota_S64x64_d0_w32) 8#32 k0_pay5 0#32))
        (k0_pay8 (k0_pay2 X1) X4 X5 X6 X7) X12 X13 (ix3 0 n o)
      = out (net (fun c => X0 (ix3 0 n c)) (fun c e => X8 (ix2 c e)) (fun e => X9 (ix2 0 e)) (fun e k => X10 (ix2 e k))
            (fun k => X11 (ix2 0 k)))
          (net (fun c => X1 (ix3 0 n c)) (fun c e => X4 (ix2 c e)) (fun e => X5 (ix2 0 e)) (fun e k => X6 (ix2 e k))
            (fun k => X7 (ix2 0 k)))
          (fun g k => ∑ c : Fin 768, X2 (ix3 0 g c) * X3 (ix2 c k)) (fun k o => X12 (ix2 k o)) (fun o => X13 (ix2 0 o)) o := by
  generalize hl : net (fun c => X0 (ix3 0 n c)) (fun c e => X8 (ix2 c e)) (fun e => X9 (ix2 0 e)) (fun e k => X10 (ix2 e k))
    (fun k => X11 (ix2 0 k)) = L at hL ⊢
  have hE : ∀ k, k0_pay4 X0 X8 X9 X10 X11 (ix2 n k) = Ideal.exp ((L k).toReal : ℝ) := fun k => by
    rw [exp_at, hl, ← (hL k).eq]
  rw [Body.out_at, out]
  refine congrArg (· + _) (Finset.sum_congr rfl fun k _ => congrArg (· * _) ?_)
  rw [head_at _ _ _ n (weight L) (fun h p => aw_at _ n (fun k => (L k).toReal) hE h p)
    (fun h p => soft_nonneg _ _) _ (off_at X1 X4 X5 X6 X7 n), sampled]
  simp only [v_at]

end Cert.KernelIdeal.Body
-- ==== Proof.Final.lean ====
/-
  The kernel's result array after the run.
-/
module

public import proofs.«01_k».proof.Proof.KernelOut
public import proofs.«01_k».proof.Proof.Gen.KernelIdeal.Value
public import Idealize.ShloMosaic.Lib.Claim

@[expose] public section

set_option maxRecDepth 16384

noncomputable section

namespace Cert.KernelIdeal.Final

open Idealize.ShloMosaic Idealize.ShloMosaic.TcCoe Idealize.SL.Sem
open Cert.KernelIdeal Cert.KernelIdeal.Gen Cert.KernelIdeal.Body Cert.Scalars Cert.Sampling Cert.Spec

/-- The logits of a query. -/
def logits (x : FVec Ideal S4x64x768 .f32) (W1 : FVec Ideal S768x768 .f32) (b1 : FVec Ideal S768 .f32)
    (W2 : FVec Ideal S768x64 .f32) (b2 : FVec Ideal S64 .f32) (b : Fin 4) (n : Fin 64) : Fin 64 → EReal :=
  net (fun c => x (ix3 b n c)) (fun c e => W1 (ix2 c e)) (fun e => b1 (ix1 e)) (fun e k => W2 (ix2 e k)) (fun k => b2 (ix1 k))

/-- The offsets, before `tanh`, that a query samples with: those of its row of the permuted queries. -/
def offsets (x : FVec Ideal S4x64x768 .f32) (W1 : FVec Ideal S768x768 .f32) (b1 : FVec Ideal S768 .f32)
    (W2 : FVec Ideal S768x128 .f32) (b2 : FVec Ideal S128 .f32) (b : Fin 4) (n : Fin 64) : Fin 128 → EReal :=
  net (fun c => x (ix3 (⟨n.val / 16, by omega⟩ : Fin 4) (⟨n.val % 16 * 4 + b.val, by omega⟩ : Fin 64) c)) (fun c e => W1 (ix2 c e))
    (fun e => b1 (ix1 e)) (fun e k => W2 (ix2 e k)) (fun k => b2 (ix1 k))

/-- The result both programs compute, of the argument arrays. -/
def result (x : FVec Ideal S4x64x768 .f32) (ctx : FVec Ideal S4x1024x768 .f32) (Wv : FVec Ideal S768x512 .f32)
    (oW1 : FVec Ideal S768x768 .f32) (ob1 : FVec Ideal S768 .f32) (oW2 : FVec Ideal S768x128 .f32) (ob2 : FVec Ideal S128 .f32)
    (aW1 : FVec Ideal S768x768 .f32) (ab1 : FVec Ideal S768 .f32) (aW2 : FVec Ideal S768x64 .f32) (ab2 : FVec Ideal S64 .f32)
    (W : FVec Ideal S512x768 .f32) (bias : FVec Ideal S768 .f32) : FVec Ideal S4x64x768 .f32 := fun i =>
  out (logits x aW1 ab1 aW2 ab2 (i 0) (i 1)) (offsets x oW1 ob1 oW2 ob2 (i 0) (i 1))
    (fun g k => ∑ c : Fin 768, ctx (ix3 (i 0 : Fin 4) g c) * Wv (ix2 c k)) (fun k o => W (ix2 k o)) (fun o => bias (ix1 o)) (i 2)

/-- Where every window's block is: the batch windows at the grid point, the others at the origin. -/
theorem idx : ∀ t : Fin cfg0.N,
    win0_0.index t = ![t.val, 0, 0] ∧ win0_1.index t = ![t.val, 0, 0] ∧ win0_2.index t = ![t.val, 0, 0]
      ∧ win0_3.index t = ![0, 0] ∧ win0_4.index t = ![0, 0] ∧ win0_5.index t = ![0, 0] ∧ win0_6.index t = ![0, 0]
      ∧ win0_7.index t = ![0, 0] ∧ win0_8.index t = ![0, 0] ∧ win0_9.index t = ![0, 0] ∧ win0_10.index t = ![0, 0]
      ∧ win0_11.index t = ![0, 0] ∧ win0_12.index t = ![0, 0] ∧ win0_13.index t = ![0, 0] ∧ win0_14.index t = ![t.val, 0, 0] :=
  (by decide +kernel : ∀ t : Fin grid0.N, _)

variable (m : (ℓ : Loc nD τ sig) → Buf (Elt Ideal) ℓ) (c : Dev nD)

/-- The permuted queries at a row: query `n` of batch `b` is query `n % 16 * 4 + b` of batch `n / 16`. -/
theorem perm_at (x : FVec Ideal S4x64x768 .f32) (b : Fin 4) (n : Fin 64) (k : Fin 768) :
    shapeCast S4x64x768 (transpose S4x4x16x768 [2, 0, 1, 3] (shapeCast S4x16x4x768 x shapeCasts_S4x64x768_S4x16x4x768)
        transposes_S4x16x4x768_S4x4x16x768_2_0_1_3) shapeCasts_S4x4x16x768_S4x64x768 (ix3 b n k)
      = x (ix3 (⟨n.val / 16, by omega⟩ : Fin 4) (⟨n.val % 16 * 4 + b.val, by omega⟩ : Fin 64) k) := by
  pointwise

/-- The queries' block is a batch of the queries. -/
theorem read0 (t : Fin cfg0.N) (n : Fin 64) (k : Fin 768) :
    iblk m c 0 t (ix3 0 n k) = m ((c : Thread nD τ).loc main_arg0) (ix3 (t : Fin 4) n k) := by
  blk_ext [iblk, V, idx t]

/-- The permuted queries' block is a batch of the permuted queries. -/
theorem read1 (t : Fin cfg0.N) (n : Fin 64) (k : Fin 768) :
    iblk m c 1 t (ix3 0 n k) = m ((c : Thread nD τ).loc main_arg0)
      (ix3 (⟨n.val / 16, by omega⟩ : Fin 4) (⟨n.val % 16 * 4 + t.val, by have : t.val < 4 := t.isLt; omega⟩ : Fin 64) k) := by
  refine Eq.trans ?_ (perm_at (m ((c : Thread nD τ).loc main_arg0)) (t : Fin 4) n k)
  blk_simp [iblk, idx t]
  entry_read
  blk_ext [idx t]

/-- The context's block is a batch of the context. -/
theorem read2 (t : Fin cfg0.N) (g : Fin 1024) (k : Fin 768) :
    iblk m c 2 t (ix3 0 g k) = m ((c : Thread nD τ).loc main_arg1) (ix3 (t : Fin 4) g k) := by
  blk_ext [iblk, V, idx t]

/-- The block of this weight matrix is the whole matrix. -/
theorem read3 (t : Fin cfg0.N) : iblk m c 3 t = m ((c : Thread nD τ).loc main_arg3) := by blk_ext! [iblk, V, idx t]

/-- The block of this weight matrix is the whole matrix. -/
theorem read4 (t : Fin cfg0.N) : iblk m c 4 t = m ((c : Thread nD τ).loc main_arg4) := by blk_ext! [iblk, V, idx t]

/-- The block of this weight matrix is the whole matrix. -/
theorem read6 (t : Fin cfg0.N) : iblk m c 6 t = m ((c : Thread nD τ).loc main_arg6) := by blk_ext! [iblk, V, idx t]

/-- The block of this weight matrix is the whole matrix. -/
theorem read8 (t : Fin cfg0.N) : iblk m c 8 t = m ((c : Thread nD τ).loc main_arg8) := by blk_ext! [iblk, V, idx t]

/-- The block of this weight matrix is the whole matrix. -/
theorem read10 (t : Fin cfg0.N) : iblk m c 10 t = m ((c : Thread nD τ).loc main_arg10) := by blk_ext! [iblk, V, idx t]

/-- The block of this weight matrix is the whole matrix. -/
theorem read12 (t : Fin cfg0.N) : iblk m c 12 t = m ((c : Thread nD τ).loc main_arg12) := by blk_ext! [iblk, V, idx t]

/-- The block of this bias is the whole bias, as a row. -/
theorem read5 (t : Fin cfg0.N) (k : Fin 768) : iblk m c 5 t (ix2 0 k) = m ((c : Thread nD τ).loc main_arg5) (ix1 k) := by
  blk_simp [iblk, idx t]; entry_read; pointwise; blk_ext [idx t]

/-- The block of this bias is the whole bias, as a row. -/
theorem read7 (t : Fin cfg0.N) (k : Fin 128) : iblk m c 7 t (ix2 0 k) = m ((c : Thread nD τ).loc main_arg7) (ix1 k) := by
  blk_simp [iblk, idx t]; entry_read; pointwise; blk_ext [idx t]

/-- The block of this bias is the whole bias, as a row. -/
theorem read9 (t : Fin cfg0.N) (k : Fin 768) : iblk m c 9 t (ix2 0 k) = m ((c : Thread nD τ).loc main_arg9) (ix1 k) := by
  blk_simp [iblk, idx t]; entry_read; pointwise; blk_ext [idx t]

/-- The block of this bias is the whole bias, as a row. -/
theorem read11 (t : Fin cfg0.N) (k : Fin 64) : iblk m c 11 t (ix2 0 k) = m ((c : Thread nD τ).loc main_arg11) (ix1 k) := by
  blk_simp [iblk, idx t]; entry_read; pointwise; blk_ext [idx t]

/-- The block of this bias is the whole bias, as a row. -/
theorem read13 (t : Fin cfg0.N) (k : Fin 768) : iblk m c 13 t (ix2 0 k) = m ((c : Thread nD τ).loc main_arg13) (ix1 k) := by
  blk_simp [iblk, idx t]; entry_read; pointwise; blk_ext [idx t]

/-- The kernel's result array after the run, where every query's logits are real. -/
theorem final (hL : ∀ (b : Fin 4) (n : Fin 64) (k : Fin 64), Real? (logits (m ((c : Thread nD τ).loc main_arg0)) (m ((c : Thread nD τ).loc main_arg8)) (m ((c : Thread nD τ).loc main_arg9)) (m ((c : Thread nD τ).loc main_arg10)) (m ((c : Thread nD τ).loc main_arg11)) b n k)) :
    (dats m 0 c).arrAt 14 cfg0.N = result (m ((c : Thread nD τ).loc main_arg0)) (m ((c : Thread nD τ).loc main_arg1)) (m ((c : Thread nD τ).loc main_arg3)) (m ((c : Thread nD τ).loc main_arg4)) (m ((c : Thread nD τ).loc main_arg5)) (m ((c : Thread nD τ).loc main_arg6)) (m ((c : Thread nD τ).loc main_arg7)) (m ((c : Thread nD τ).loc main_arg8)) (m ((c : Thread nD τ).loc main_arg9)) (m ((c : Thread nD τ).loc main_arg10)) (m ((c : Thread nD τ).loc main_arg11)) (m ((c : Thread nD τ).loc main_arg12)) (m ((c : Thread nD τ).loc main_arg13)) := by
  refine (dats m 0 c).arrAt_eq_of_covers 14 _ (by decide +kernel) fun t _ y => ?_
  blk_simp
  rw [after0_14, out0_14_eq]
  frame_out
  idx_vars y
  have hy : y0 = 0 := Subsingleton.elim _ _
  subst hy
  have he : ((View.whole main_v8).slice (win0_14.rect t)).emb (ix3 0 y1 y2) = ix3 (t : Fin 4) y1 y2 := by blk_ext! [idx t]
  rw [he]
  refine (block_at (iblk m c 0 t) (iblk m c 1 t) (iblk m c 2 t) (iblk m c 3 t) (iblk m c 4 t) (iblk m c 5 t) (iblk m c 6 t)
    (iblk m c 7 t) (iblk m c 8 t) (iblk m c 9 t) (iblk m c 10 t) (iblk m c 11 t) (iblk m c 12 t) (iblk m c 13 t) y1 y2
    fun k => ?_).trans ?_
  · simp only [read0, read8, read9, read10, read11]
    exact hL t y1 k
  · simp only [read0, read1, read2, read3, read4, read5, read6, read7, read8, read9, read10, read11, read12, read13]
    rfl

end Cert.KernelIdeal.Final
-- ==== Proof.RefCorner.lean ====
/-
  One corner of the reference's bilinear sampling, as a composition of its own, and that composition read at an index.

  The reference spells the corner out four times. Here it is one definition of the maps, the corner's row and column
  coordinates and its weight; `val_main_v120_eq` and its three companions say each spelling is that definition.
-/
module

public import proofs.«01_k».proof.Proof.Gen.ReferenceIdeal.Read
public import proofs.«01_k».proof.Proof.Scalars
public import Idealize.ShloMosaic.Lib.Pointwise

@[expose] public section

set_option maxRecDepth 16384

noncomputable section

namespace Cert.ReferenceIdeal.Corner

open Cert.ReferenceIdeal Cert.ReferenceIdeal.Gen Cert.ReferenceIdeal.Read Cert.Scalars
open Idealize.ShloMosaic Idealize.ShloMosaic.TcCoe Idealize.SL.Sem Idealize.ShloMosaic.StableHlo

section Definitions
variable {F : FTy → Type} [FloatOps F]

/-- A coordinate kept on the map, as a word. -/
def clipped (y : FVec F S64x32x8 .f32) : IVec S64x32x8 32 :=
  fptosi 32 (minimumf (broadcastInDim S64x32x8 ![] bcast_S_S64x32x8 (sitofp .f32 (constantI S_ 32 31#32)))
    (maximumf (broadcastInDim S64x32x8 ![] bcast_S_S64x32x8 (sitofp .f32 (constantI S_ 32 0#32))) y))

/-- A word index counted from the end of the axis when it is negative. -/
def wrapped (a : IVec S64x32x8 32) : IVec S64x32x8 32 :=
  select (cmpi .slt a (broadcastInDim S64x32x8 ![] bcast_S_S64x32x8 (constantI S_ 32 0#32)))
    (addi a (broadcastInDim S64x32x8 ![] bcast_S_S64x32x8 (constantI S_ 32 32#32))) a

/-- The number of every map. -/
def mapNo : IVec S1x32x1 32 := broadcastInDim S1x32x1 ![1] bcast_S32_S1x32x1_1 (iotaInDim S32 32 0)

/-- The number of every map, counted from the end when it is negative. -/
def mapWrapped : IVec S1x32x1 32 :=
  select (cmpi .slt mapNo (broadcastInDim S1x32x1 ![] bcast_S_S1x32x1 (constantI S_ 32 0#32)))
    (addi mapNo (broadcastInDim S1x32x1 ![] bcast_S_S1x32x1 (constantI S_ 32 32#32))) mapNo

/-- The map, row and column every sample is read at. -/
def places (y x : FVec F S64x32x8 .f32) : IVec S64x32x8x3 32 :=
  concatenate S64x32x8x3 3
    [⟨S64x32x8x1, broadcastInDim S64x32x8x1 ![0, 1, 2] bcast_S64x32x8_S64x32x8x1_0_1_2
        (broadcastInDim S64x32x8 ![0, 1, 2] bcast_S1x32x1_S64x32x8_0_1_2 mapWrapped)⟩,
      ⟨S64x32x8x1, broadcastInDim S64x32x8x1 ![0, 1, 2] bcast_S64x32x8_S64x32x8x1_0_1_2 (wrapped (clipped y))⟩,
      ⟨S64x32x8x1, broadcastInDim S64x32x8x1 ![0, 1, 2] bcast_S64x32x8_S64x32x8x1_0_1_2 (wrapped (clipped x))⟩]
    concatenates_S64x32x8x1_S64x32x8x1_S64x32x8x1_S64x32x8x3_d3

/-- Whether a corner is on the map. -/
def onMap (y x : FVec F S64x32x8 .f32) : IVec S64x32x8 1 :=
  andi (andi (andi
    (cmpf .oge x (broadcastInDim S64x32x8 ![] bcast_S_S64x32x8 (constant S_ .f32 0x00000000#32)))
    (cmpf .ole x (broadcastInDim S64x32x8 ![] bcast_S_S64x32x8 (constant S_ .f32 0x41F80000#32))))
    (cmpf .oge y (broadcastInDim S64x32x8 ![] bcast_S_S64x32x8 (constant S_ .f32 0x00000000#32))))
    (cmpf .ole y (broadcastInDim S64x32x8 ![] bcast_S_S64x32x8 (constant S_ .f32 0x41F80000#32)))

/-- A corner's values with its weights. -/
def corner (maps : FVec F S32x64x32x32 .f32) (y x wt : FVec F S64x32x8 .f32) : FVec F S64x32x8x64 .f32 :=
  mulf (Host.gather gather_S32x64x32x32_S64x32x8x3_S64x32x8x64_3_023_n_n_023_3_16411 maps (places y x))
    (broadcastInDim S64x32x8x64 ![0, 1, 2, 3] bcast_S64x32x8x1_S64x32x8x64_0_1_2_3
      (broadcastInDim S64x32x8x1 ![0, 1, 2] bcast_S64x32x8_S64x32x8x1_0_1_2 (mulf wt (uitofp .f32 (onMap y x)))))

variable (x0 : (⟨S4x64x768, .f32⟩ : BufTy).Contents (Elt F)) (x1 : (⟨S4x1024x768, .f32⟩ : BufTy).Contents (Elt F))
  (x3 : (⟨S768x512, .f32⟩ : BufTy).Contents (Elt F)) (x4 : (⟨S768x768, .f32⟩ : BufTy).Contents (Elt F))
  (x5 : (⟨S768, .f32⟩ : BufTy).Contents (Elt F)) (x6 : (⟨S768x128, .f32⟩ : BufTy).Contents (Elt F))
  (x7 : (⟨S128, .f32⟩ : BufTy).Contents (Elt F))

/-- The four corners of the reference, added up, are that definition at the four pairs of coordinates. -/
theorem val_main_v249_eq : val_main_v249 x0 x1 x3 x4 x5 x6 x7
    = addf (addf (addf
        (corner (val_main_v3 x1 x3) (val_main_v66 x0 x4 x5 x6 x7) (val_main_v65 x0 x4 x5 x6 x7) (val_main_v79 x0 x4 x5 x6 x7))
        (corner (val_main_v3 x1 x3) (val_main_v66 x0 x4 x5 x6 x7) (val_main_v68 x0 x4 x5 x6 x7) (val_main_v121 x0 x4 x5 x6 x7)))
        (corner (val_main_v3 x1 x3) (val_main_v70 x0 x4 x5 x6 x7) (val_main_v65 x0 x4 x5 x6 x7) (val_main_v164 x0 x4 x5 x6 x7)))
        (corner (val_main_v3 x1 x3) (val_main_v70 x0 x4 x5 x6 x7) (val_main_v68 x0 x4 x5 x6 x7) (val_main_v207 x0 x4 x5 x6 x7)) := by
  rfl

end Definitions

/-! ## The corner at an index -/

/-- On an axis the start index names, a sample starts at the index's component, kept on the axis. -/
theorem start_at (idx : IVec S64x32x8x3 32) (q : Fin 64) (m : Fin 32) (p : Fin 8) (d : Fin 64) (a : Fin 4) (c : Fin 3)
    (hc : ([0, 2, 3] : List (Fin 4)).idxOf a = c.val) (ha : a ∈ ([0, 2, 3] : List (Fin 4)))
    (N : ℕ) (hN : S32x64x32x32.size a - (![1, 64, 1, 1] : Fin 4 → ℕ) a = N) :
    GatherDims.start gather_S32x64x32x32_S64x32x8x3_S64x32x8x64_3_023_n_n_023_3_16411 (ix4 q m p d) idx a
      = min (idx (ix4 q m p c)).toInt.toNat N := by
  unfold GatherDims.start
  rw [dif_pos (show a ∈ GatherDims.startIndexMap gather_S32x64x32x32_S64x32x8x3_S64x32x8x64_3_023_n_n_023_3_16411 from ha)]
  subst hN
  congr 4
  funext b
  refine Fin.ext ?_
  match b with
  | 0 => rfl
  | 1 => rfl
  | 2 => rfl
  | 3 => exact hc

/-- The sample read at `(q, m, p, d)`: the map, row and column of its start index, each kept on its axis. -/
theorem gather_at (maps : FVec Ideal S32x64x32x32 .f32) (idx : IVec S64x32x8x3 32) (q : Fin 64) (m : Fin 32) (p : Fin 8) (d : Fin 64) :
    Host.gather gather_S32x64x32x32_S64x32x8x3_S64x32x8x64_3_023_n_n_023_3_16411 maps idx (ix4 q m p d)
      = maps (ix4 (⟨min (idx (ix4 q m p 0)).toInt.toNat 31, by omega⟩ : Fin 32) d
          (⟨min (idx (ix4 q m p 1)).toInt.toNat 31, by omega⟩ : Fin 32) (⟨min (idx (ix4 q m p 2)).toInt.toNat 31, by omega⟩ : Fin 32)) := by
  unfold Host.gather
  congr 1
  funext a
  refine Fin.ext ?_
  show GatherDims.start _ (ix4 q m p d) idx a + GatherDims.batchCoord _ (ix4 q m p d) a + GatherDims.offCoord _ (ix4 q m p d) a = _
  rw [GatherDims.batchCoord_eq_zero _ _ _ List.not_mem_nil, Nat.add_zero]
  match a with
  | 0 =>
    rw [GatherDims.offCoord_eq_zero _ _ _ (by decide), Nat.add_zero]
    exact start_at idx q m p d 0 0 rfl (by decide) 31 rfl
  | 1 =>
    unfold GatherDims.start GatherDims.offCoord
    rw [dif_neg (by decide), dif_pos (by decide), Nat.zero_add]
    rfl
  | 2 =>
    rw [GatherDims.offCoord_eq_zero _ _ _ (by decide), Nat.add_zero]
    exact start_at idx q m p d 2 1 rfl (by decide) 31 rfl
  | 3 =>
    rw [GatherDims.offCoord_eq_zero _ _ _ (by decide), Nat.add_zero]
    exact start_at idx q m p d 3 2 rfl (by decide) 31 rfl

/-- A word that is a coordinate of the axis is not negative, so it stays. -/
theorem wrap_word : ∀ n : Fin 32,
    Scalar.select (IntOp.cmpi CmpIPredicate.slt (BitVec.ofNat 32 n.val) 0#32)
      (IntOp.addi (BitVec.ofNat 32 n.val) 32#32) (BitVec.ofNat 32 n.val) = BitVec.ofNat 32 n.val := by
  decide +kernel

/-- A whole number kept on the axis, converted to a word. -/
theorem clip_word (Y : ℕ) :
    FloatOps.fptosi (F := Ideal) (φ := .f32) 32 (min (FloatOps.sitofp FTy.f32 31#32) (max (FloatOps.sitofp FTy.f32 0#32) (((Y : ℝ) : EReal))))
      = BitVec.ofNat 32 (min Y 31) := by
  have e : min (FloatOps.sitofp (F := Ideal) FTy.f32 31#32) (max (FloatOps.sitofp (F := Ideal) FTy.f32 0#32) (((Y : ℝ) : EReal)))
      = (((min Y 31 : ℕ) : ℝ) : EReal) := by
    show min (((31#32 : BitVec 32).toInt : ℝ) : EReal) (max (((0#32 : BitVec 32).toInt : ℝ) : EReal) ((Y : ℝ) : EReal)) = _
    rw [← EReal.coe_strictMono.monotone.map_max, ← EReal.coe_strictMono.monotone.map_min]
    rw [show (31#32 : BitVec 32).toInt = 31 from rfl]
    norm_num [Nat.cast_min, min_comm]
  rw [e]
  show BitVec.ofInt 32 (Ideal.toIntClamped _ _ _) = _
  rw [Ideal.toIntClamped_coe, if_pos (Nat.cast_nonneg _), Int.floor_natCast]
  have : max (-((2 ^ (32 - 1) : ℕ) : ℤ)) (min (((2 ^ (32 - 1) : ℕ) : ℤ) - 1) ((min Y 31 : ℕ) : ℤ)) = ((min Y 31 : ℕ) : ℤ) := by
    norm_num
  rw [this, BitVec.ofInt_natCast]

/-- A coordinate that is a whole number, as the index it is read at. -/
theorem clipped_at (y : FVec Ideal S64x32x8 .f32) (i : S64x32x8.Idx) (Y : ℕ) (h : y i = ((Y : ℝ) : EReal)) :
    wrapped (clipped y) i = BitVec.ofNat 32 (min Y 31) := by
  unfold wrapped clipped
  pointwise
  rw [h, clip_word]
  exact wrap_word ⟨min Y 31, by omega⟩

/-- The number of map `m`. -/
theorem map_at (m : Fin 32) : mapWrapped (ix3 0 m 0) = BitVec.ofNat 32 m.val := by
  unfold mapWrapped mapNo
  pointwise
  exact wrap_word m

/-- The three coordinates of the start index. -/
theorem places_at (y x : FVec Ideal S64x32x8 .f32) (q : Fin 64) (m : Fin 32) (p : Fin 8) :
    places y x (ix4 q m p 0) = mapWrapped (ix3 0 m 0) ∧ places y x (ix4 q m p 1) = wrapped (clipped y) (ix3 q m p)
      ∧ places y x (ix4 q m p 2) = wrapped (clipped x) (ix3 q m p) := by
  refine ⟨?_, ?_, ?_⟩ <;> pointwise [places]

/-- Whether a corner with whole coordinates is on the map, as a number. -/
theorem onMap_at (y x : FVec Ideal S64x32x8 .f32) (i : S64x32x8.Idx) (Y X : ℕ)
    (hy : y i = ((Y : ℝ) : EReal)) (hx : x i = ((X : ℝ) : EReal)) :
    FloatOps.uitofp (F := Ideal) .f32 (onMap y x i) = ((if X ≤ 31 ∧ Y ≤ 31 then 1 else 0 : ℝ) : EReal) := by
  have pos : ∀ n : ℕ, (0 : EReal) ≤ ((n : ℝ) : EReal) := fun n => EReal.coe_nonneg.mpr (Nat.cast_nonneg n)
  have le : ∀ n : ℕ, (((n : ℝ) : EReal) ≤ ((31 : ℝ) : EReal)) ↔ n ≤ 31 := fun n => by rw [EReal.coe_le_coe_iff]; norm_cast
  unfold onMap
  pointwise
  rw [hy, hx, lit_31]
  simp only [pos, le, decide_true]
  by_cases hX : X ≤ 31 <;> by_cases hY : Y ≤ 31 <;> simp [hX, hY, IntOp.andi, FloatOps.uitofp]

/-- A word below 32 read signed is its number. -/
theorem toInt_word (n : ℕ) (h : n ≤ 31) : min (BitVec.ofNat 32 n).toInt.toNat 31 = n := by
  rw [BitVec.toInt_eq_toNat_of_lt (by rw [BitVec.toNat_ofNat]; omega), BitVec.toNat_ofNat, Nat.mod_eq_of_lt (by omega)]
  omega

/-- A corner with whole coordinates and a real weight, at an index. -/
theorem corner_at (maps : FVec Ideal S32x64x32x32 .f32) (y x wt : FVec Ideal S64x32x8 .f32) (q : Fin 64) (m : Fin 32) (p : Fin 8)
    (d : Fin 64) (Y X : ℕ) (w : ℝ) (hy : y (ix3 q m p) = ((Y : ℝ) : EReal)) (hx : x (ix3 q m p) = ((X : ℝ) : EReal))
    (hw : wt (ix3 q m p) = (w : EReal)) :
    corner maps y x wt (ix4 q m p d)
      = maps (ix4 m d (⟨min Y 31, by omega⟩ : Fin 32) (⟨min X 31, by omega⟩ : Fin 32))
        * ((w * (if X ≤ 31 ∧ Y ≤ 31 then 1 else 0) : ℝ) : EReal) := by
  obtain ⟨h0, h1, h2⟩ := places_at y x q m p
  rw [map_at] at h0
  rw [clipped_at _ _ Y hy] at h1
  rw [clipped_at _ _ X hx] at h2
  have e : Host.gather gather_S32x64x32x32_S64x32x8x3_S64x32x8x64_3_023_n_n_023_3_16411 maps (places y x) (ix4 q m p d)
      = maps (ix4 m d (⟨min Y 31, by omega⟩ : Fin 32) (⟨min X 31, by omega⟩ : Fin 32)) := by
    rw [gather_at]
    congr 1
    have e0 : (⟨min (places y x (ix4 q m p 0)).toInt.toNat 31, by omega⟩ : Fin 32) = m :=
      Fin.ext (by simp only [h0]; exact toInt_word _ (by omega))
    have e1 : (⟨min (places y x (ix4 q m p 1)).toInt.toNat 31, by omega⟩ : Fin 32) = ⟨min Y 31, by omega⟩ :=
      Fin.ext (by simp only [h1]; exact toInt_word _ (by omega))
    have e2 : (⟨min (places y x (ix4 q m p 2)).toInt.toNat 31, by omega⟩ : Fin 32) = ⟨min X 31, by omega⟩ :=
      Fin.ext (by simp only [h2]; exact toInt_word _ (by omega))
    rw [e0, e1, e2]
  rw [EReal.coe_mul, ← onMap_at y x (ix3 q m p) Y X hy hx, ← hw, ← e]
  pointwise [corner]

end Cert.ReferenceIdeal.Corner
-- ==== Proof.RefAt.lean ====
/-
  The reference's stages read at an index, over the extended reals.
-/
module

public import proofs.«01_k».proof.Proof.RefCorner
public import proofs.«01_k».proof.Proof.Spec

@[expose] public section

set_option maxRecDepth 16384

noncomputable section

namespace Cert.ReferenceIdeal.At

open Cert.ReferenceIdeal Cert.ReferenceIdeal.Gen Cert.ReferenceIdeal.Read Cert.ReferenceIdeal.Corner Cert.Scalars Cert.Sampling Cert.Spec
open Idealize.ShloMosaic Idealize.ShloMosaic.TcCoe Idealize.SL.Sem Idealize.ShloMosaic.StableHlo

variable (x0 : (⟨S4x64x768, .f32⟩ : BufTy).Contents (Elt Ideal)) (x1 : (⟨S4x1024x768, .f32⟩ : BufTy).Contents (Elt Ideal))
  (x3 : (⟨S768x512, .f32⟩ : BufTy).Contents (Elt Ideal)) (x4 : (⟨S768x768, .f32⟩ : BufTy).Contents (Elt Ideal))
  (x5 : (⟨S768, .f32⟩ : BufTy).Contents (Elt Ideal)) (x6 : (⟨S768x128, .f32⟩ : BufTy).Contents (Elt Ideal))
  (x7 : (⟨S128, .f32⟩ : BufTy).Contents (Elt Ideal))  (x8 : (⟨S768x768, .f32⟩ : BufTy).Contents (Elt Ideal))
  (x9 : (⟨S768, .f32⟩ : BufTy).Contents (Elt Ideal)) (x10 : (⟨S768x64, .f32⟩ : BufTy).Contents (Elt Ideal))
  (x11 : (⟨S64, .f32⟩ : BufTy).Contents (Elt Ideal)) (x12 : (⟨S512x768, .f32⟩ : BufTy).Contents (Elt Ideal))
  (x13 : (⟨S768, .f32⟩ : BufTy).Contents (Elt Ideal))

/-- The feature maps, pixel by pixel, are columns of the values. -/
theorem maps_at (m : Fin 32) (d : Fin 64) (i j : Fin 32) :
    val_main_v3 x1 x3 (ix4 m d i j)
      = ∑ c : Fin 768, x1 (ix3 ⟨m.val / 8, by omega⟩ (pix i j) c) * x3 (ix2 c (colV ⟨m.val % 8, by omega⟩ d)) := by
  pointwise [val_main_v3, val_main_v2, val_main_v1, val_main_v0, pix, colV]

/-- The hidden layer of the offsets' network. -/
theorem hidden_at (b : Fin 4) (n : Fin 64) (e : Fin 768) :
    val_main_v14 x0 x4 x5 (ix3 b n e) = gelu ((∑ c : Fin 768, x0 (ix3 b n c) * x4 (ix2 c e)) + x5 (ix1 e)) := by
  rw [← gelu_erfc]
  pointwise [val_main_v14, val_main_v13, val_main_v12, val_main_v11, val_main_v10, val_main_v9, val_main_v8, val_main_v7,
    val_main_v6, val_main_v5, val_main_v4, val_main_cst, val_main_cst_0]

/-- The offsets, through `tanh`. -/
theorem tanh_at (b : Fin 4) (n : Fin 64) (k : Fin 128) :
    val_main_v19 x0 x4 x5 x6 x7 (ix3 b n k)
      = Ideal.tanh (net (fun c => x0 (ix3 b n c)) (fun c e => x4 (ix2 c e)) (fun e => x5 (ix1 e)) (fun e k => x6 (ix2 e k))
          (fun k => x7 (ix1 k)) k) := by
  trans Ideal.tanh ((∑ e, val_main_v14 x0 x4 x5 (ix3 b n e) * x6 (ix2 e k)) + x7 (ix1 k))
  · pointwise [val_main_v19, val_main_v18, val_main_v17, val_main_v16, val_main_v15]
  · simp only [net, hidden_at]

/-- The sampling points of query `q` of map `m`. -/
theorem off_at (q : Fin 64) (m : Fin 32) (p : Fin 8) (c : Fin 2) :
    val_main_v21 x0 x4 x5 x6 x7 (ix4 q m p c)
      = val_main_v19 x0 x4 x5 x6 x7 (ix3 ⟨q.val / 16, by omega⟩ ⟨q.val % 16 * 4 + m.val / 8, by omega⟩
          (colOff ⟨m.val % 8, by omega⟩ p c)) := by
  pointwise [val_main_v21, val_main_v20, colOff]

/-- The attention logits. -/
theorem logit_at (b : Fin 4) (n : Fin 64) (h p : Fin 8) :
    val_main_v37 x0 x8 x9 x10 x11 (ix4 b n h p)
      = net (fun c => x0 (ix3 b n c)) (fun c e => x8 (ix2 c e)) (fun e => x9 (ix1 e)) (fun e k => x10 (ix2 e k))
          (fun k => x11 (ix1 k)) (col h p) := by
  have e : ∀ e, val_main_v32 x0 x8 x9 (ix3 b n e) = gelu ((∑ c : Fin 768, x0 (ix3 b n c) * x8 (ix2 c e)) + x9 (ix1 e)) :=
    hidden_at x0 x8 x9 b n
  trans (∑ e, val_main_v32 x0 x8 x9 (ix3 b n e) * x10 (ix2 e (col h p))) + x11 (ix1 (col h p))
  · pointwise [val_main_v37, val_main_v36, val_main_v35, val_main_v34, val_main_v33, col]
  · simp only [net, e]

/-! ## The attention weights -/

/-- The largest logit of a head, where the logits are real. -/
theorem peak_real (hL : ∀ i, Real? (val_main_v37 x0 x8 x9 x10 x11 i)) (i : S4x64x8.Idx) :
    Real? (val_main_v40 x0 x8 x9 x10 x11 i) := by
  have e : val_main_v40 x0 x8 x9 x10 x11 i = val_main_v38 x0 x8 x9 x10 x11 i := by
    rw [val_main_v40_apply, val_main_v39_apply, val_main_cst_4_apply]
    show max (Ideal.ofBits .f32 0xFF800000#32) _ = _
    rw [lit_bot, bot_sup_eq]
  rw [e]
  unfold val_main_v38
  rw [Host.reduce_eq_fold_single _ _ _ _ (by decide)]
  show Real? (Finset.fold max (Ideal.ofBits .f32 0xFF800000#32) _ _)
  rw [lit_bot]
  exact Real?.fold_max _ ⟨(0 : Fin 8), Finset.mem_univ _⟩ _ fun k => hL _

/-- The attention weights, where the logits are real. -/
theorem weight_at (hL : ∀ i, Real? (val_main_v37 x0 x8 x9 x10 x11 i)) (b : Fin 4) (n : Fin 64) (h p : Fin 8) :
    val_main_v48 x0 x8 x9 x10 x11 (ix4 b n h p)
      = (soft (fun q => (val_main_v37 x0 x8 x9 x10 x11 (ix4 b n h q)).toReal) p : EReal) := by
  obtain ⟨M, hM⟩ := peak_real x0 x8 x9 x10 x11 hL (ix3 b n h)
  rw [← soft_shift _ M]
  have e : ∀ q, val_main_v44 x0 x8 x9 x10 x11 (ix4 b n h q)
      = Ideal.exp (((val_main_v37 x0 x8 x9 x10 x11 (ix4 b n h q)).toReal : EReal) - (M : EReal)) := fun q => by
    rw [← (hL (ix4 b n h q)).eq, ← hM]
    pointwise [val_main_v44, val_main_v43, val_main_v42, val_main_v41]
  trans Ideal.div (val_main_v44 x0 x8 x9 x10 x11 (ix4 b n h p)) (∑ q, val_main_v44 x0 x8 x9 x10 x11 (ix4 b n h q))
  · have s := val_main_v45_apply x0 x8 x9 x10 x11 (ix3 b n h)
    trans Ideal.div (val_main_v44 x0 x8 x9 x10 x11 (ix4 b n h p)) (val_main_v45 x0 x8 x9 x10 x11 (ix3 b n h))
    · pointwise [val_main_v48, val_main_v47, val_main_v46]
    · rw [s, val_main_cst_5_apply, show FloatOps.ofBits (F := Ideal) .f32 0x00000000#32 = (0 : EReal) from Ideal.ofBits_zero_f32, zero_add]
      refine congrArg (Ideal.div _) (Finset.sum_congr rfl fun q _ => congrArg _ (funext fun a => ?_))
      match a with
      | 0 => rfl
      | 1 => rfl
      | 2 => rfl
      | 3 => rfl
  · simp only [e]

/-! ## The sampling points -/

/-- The column coordinate of a sampling point. -/
theorem ix_at (q : Fin 64) (m : Fin 32) (p : Fin 8) (z : EReal) (hz : val_main_v21 x0 x4 x5 x6 x7 (ix4 q m p 0) = Ideal.tanh z) :
    val_main_v58 x0 x4 x5 x6 x7 (ix3 q m p) = (coord z : EReal) := by
  rw [← coord_reference, ← hz]
  pointwise [val_main_v58, val_main_v57, val_main_v56, val_main_v55, val_main_v54, val_main_v53, val_main_v50, val_main_v49,
    val_main_cst_6, val_main_cst_7, val_main_cst_8]

/-- The row coordinate of a sampling point. -/
theorem iy_at (q : Fin 64) (m : Fin 32) (p : Fin 8) (z : EReal) (hz : val_main_v21 x0 x4 x5 x6 x7 (ix4 q m p 1) = Ideal.tanh z) :
    val_main_v64 x0 x4 x5 x6 x7 (ix3 q m p) = (coord z : EReal) := by
  rw [← coord_reference, ← hz]
  pointwise [val_main_v64, val_main_v63, val_main_v62, val_main_v61, val_main_v60, val_main_v59, val_main_v52, val_main_v51,
    val_main_cst_9, val_main_cst_10, val_main_cst_11]

/-- The pixel at or below a coordinate, as a whole number. -/
theorem floor_nat {t : ℝ} (h : 0 ≤ t) : ((⌊t⌋.toNat : ℕ) : ℝ) = (⌊t⌋ : ℝ) := by
  have := Int.floor_nonneg.mpr h
  exact_mod_cast Int.toNat_of_nonneg this

/-- The pixel above a coordinate, as a whole number. -/
theorem ceil_nat {t : ℝ} (h : 0 ≤ t) : (((⌊t⌋ + 1).toNat : ℕ) : ℝ) = (⌊t⌋ : ℝ) + 1 := by
  have := Int.floor_nonneg.mpr h
  have e : (((⌊t⌋ + 1).toNat : ℕ) : ℤ) = ⌊t⌋ + 1 := Int.toNat_of_nonneg (by omega)
  exact_mod_cast e

/-- The pixel at or below a coordinate of the map is on the map. -/
theorem floor_le {t : ℝ} (h : t ≤ 31) : ⌊t⌋.toNat ≤ 31 := by
  have : ⌊t⌋ ≤ 31 := by
    have := Int.floor_mono h
    simpa using this
  omega

/-- The four corners of a sample, added up. -/
theorem sample_at (q : Fin 64) (m : Fin 32) (p : Fin 8) (d : Fin 64) (x y : ℝ) (hx0 : 0 ≤ x) (hx1 : x ≤ 31) (hy0 : 0 ≤ y)
    (hy1 : y ≤ 31) (hx : val_main_v58 x0 x4 x5 x6 x7 (ix3 q m p) = (x : EReal))
    (hy : val_main_v64 x0 x4 x5 x6 x7 (ix3 q m p) = (y : EReal)) :
    val_main_v249 x0 x1 x3 x4 x5 x6 x7 (ix4 q m p d) = corners x y fun i j => val_main_v3 x1 x3 (ix4 m d i j) := by
  have f0 : val_main_v65 x0 x4 x5 x6 x7 (ix3 q m p) = ((⌊x⌋.toNat : ℝ) : EReal) := by
    rw [val_main_v65_apply, hx, floor_nat hx0]; rfl
  have g0 : val_main_v66 x0 x4 x5 x6 x7 (ix3 q m p) = ((⌊y⌋.toNat : ℝ) : EReal) := by
    rw [val_main_v66_apply, hy, floor_nat hy0]; rfl
  have f1 : val_main_v68 x0 x4 x5 x6 x7 (ix3 q m p) = (((⌊x⌋ + 1).toNat : ℝ) : EReal) := by
    rw [ceil_nat hx0, ← floor_nat hx0, EReal.coe_add, ← f0]
    pointwise [val_main_v68, val_main_v67, val_main_cst_12]
    rfl
  have g1 : val_main_v70 x0 x4 x5 x6 x7 (ix3 q m p) = (((⌊y⌋ + 1).toNat : ℝ) : EReal) := by
    rw [ceil_nat hy0, ← floor_nat hy0, EReal.coe_add, ← g0]
    pointwise [val_main_v70, val_main_v69, val_main_cst_13]
    rfl
  have wx1 : val_main_v71 x0 x4 x5 x6 x7 (ix3 q m p) = ((x - ⌊x⌋ : ℝ) : EReal) := by
    rw [val_main_v71_apply, f0, hx, floor_nat hx0]; rfl
  have wy1 : val_main_v74 x0 x4 x5 x6 x7 (ix3 q m p) = ((y - ⌊y⌋ : ℝ) : EReal) := by
    rw [val_main_v74_apply, g0, hy, floor_nat hy0]; rfl
  have wx0 : val_main_v73 x0 x4 x5 x6 x7 (ix3 q m p) = ((1 - (x - ⌊x⌋) : ℝ) : EReal) := by
    rw [EReal.coe_sub, ← wx1]
    pointwise [val_main_v73, val_main_v72, val_main_cst_14]
    rfl
  have wy0 : val_main_v76 x0 x4 x5 x6 x7 (ix3 q m p) = ((1 - (y - ⌊y⌋) : ℝ) : EReal) := by
    rw [EReal.coe_sub, ← wy1]
    pointwise [val_main_v76, val_main_v75, val_main_cst_15]
    rfl
  have hX : (⌊x⌋ + 1).toNat ≤ 31 ↔ ⌊x⌋ + 1 ≤ 31 := by omega
  have hY : (⌊y⌋ + 1).toNat ≤ 31 ↔ ⌊y⌋ + 1 ≤ 31 := by omega
  rw [val_main_v249_eq, corners]
  have c00 := corner_at (val_main_v3 x1 x3) _ _ (val_main_v79 x0 x4 x5 x6 x7) q m p d _ _ _ g0 f0
    (by rw [val_main_v79_apply, wy0, wx0]; exact (EReal.coe_mul _ _).symm)
  have c01 := corner_at (val_main_v3 x1 x3) _ _ (val_main_v121 x0 x4 x5 x6 x7) q m p d _ _ _ g0 f1
    (by rw [val_main_v121_apply, wy0, wx1]; exact (EReal.coe_mul _ _).symm)
  have c10 := corner_at (val_main_v3 x1 x3) _ _ (val_main_v164 x0 x4 x5 x6 x7) q m p d _ _ _ g1 f0
    (by rw [val_main_v164_apply, wy1, wx0]; exact (EReal.coe_mul _ _).symm)
  have c11 := corner_at (val_main_v3 x1 x3) _ _ (val_main_v207 x0 x4 x5 x6 x7) q m p d _ _ _ g1 f1
    (by rw [val_main_v207_apply, wy1, wx1]; exact (EReal.coe_mul _ _).symm)
  rw [if_pos ⟨floor_le hx1, floor_le hy1⟩, mul_one] at c00
  trans corner (val_main_v3 x1 x3) (val_main_v66 x0 x4 x5 x6 x7) (val_main_v65 x0 x4 x5 x6 x7) (val_main_v79 x0 x4 x5 x6 x7) (ix4 q m p d)
    + corner (val_main_v3 x1 x3) (val_main_v66 x0 x4 x5 x6 x7) (val_main_v68 x0 x4 x5 x6 x7) (val_main_v121 x0 x4 x5 x6 x7) (ix4 q m p d)
    + corner (val_main_v3 x1 x3) (val_main_v70 x0 x4 x5 x6 x7) (val_main_v65 x0 x4 x5 x6 x7) (val_main_v164 x0 x4 x5 x6 x7) (ix4 q m p d)
    + corner (val_main_v3 x1 x3) (val_main_v70 x0 x4 x5 x6 x7) (val_main_v68 x0 x4 x5 x6 x7) (val_main_v207 x0 x4 x5 x6 x7) (ix4 q m p d)
  · rfl
  rw [c00, c01, c10, c11]
  refine congrArg₂ (· + ·) (congrArg₂ (· + ·) (congrArg₂ (· + ·) rfl ?_) ?_) ?_
  · simp only [on, hX, floor_le hy1, and_true]; rfl
  · simp only [on, hY, floor_le hx1, true_and]; rfl
  · simp only [on, hX, hY, and_comm (a := ⌊x⌋ + 1 ≤ 31), ← ite_and, mul_ite, mul_one, mul_zero]
    rfl

/-! ## The result -/

/-- The weighted samples, added up over a head's points. -/
theorem summed_at (b : Fin 4) (n : Fin 64) (h : Fin 8) (d : Fin 64) :
    val_main_v255 x0 x1 x3 x4 x5 x6 x7 x8 x9 x10 x11 (ix4 b n h d)
      = ∑ p : Fin 8, val_main_v48 x0 x8 x9 x10 x11 (ix4 b n h p)
          * val_main_v249 x0 x1 x3 x4 x5 x6 x7 (ix4 n ⟨b.val * 8 + h.val, by omega⟩ p d) := by
  rw [val_main_v255_apply]
  pointwise [val_main_v254, val_main_v253, val_main_v252, val_main_v251, val_main_v250]
  rw [val_main_cst_71_apply, show FloatOps.ofBits (F := Ideal) .f32 0x00000000#32 = (0 : EReal) from Ideal.ofBits_zero_f32, zero_add]

/-- The projection of the summed samples, and the bias. -/
theorem result_at (b : Fin 4) (n : Fin 64) (o : Fin 768) :
    val_main_v260 x0 x1 x3 x4 x5 x6 x7 x8 x9 x10 x11 x12 x13 (ix3 b n o)
      = (∑ k : Fin 512, val_main_v255 x0 x1 x3 x4 x5 x6 x7 x8 x9 x10 x11 (ix4 b n ⟨k.val / 64, by omega⟩ ⟨k.val % 64, by omega⟩)
          * x12 (ix2 k o)) + x13 (ix1 o) := by
  pointwise [val_main_v260, val_main_v259, val_main_v258, val_main_v257, val_main_v256]

/-- The result, where the logits are real. -/
theorem out_at (hL : ∀ i, Real? (val_main_v37 x0 x8 x9 x10 x11 i)) (b : Fin 4) (n : Fin 64) (o : Fin 768) :
    val_main_v260 x0 x1 x3 x4 x5 x6 x7 x8 x9 x10 x11 x12 x13 (ix3 b n o)
      = out (net (fun c => x0 (ix3 b n c)) (fun c e => x8 (ix2 c e)) (fun e => x9 (ix1 e)) (fun e k => x10 (ix2 e k)) (fun k => x11 (ix1 k)))
          (net (fun c => x0 (ix3 ⟨n.val / 16, by omega⟩ ⟨n.val % 16 * 4 + b.val, by omega⟩ c)) (fun c e => x4 (ix2 c e))
            (fun e => x5 (ix1 e)) (fun e k => x6 (ix2 e k)) (fun k => x7 (ix1 k)))
          (fun g k => ∑ c : Fin 768, x1 (ix3 b g c) * x3 (ix2 c k)) (fun k o => x12 (ix2 k o)) (fun o => x13 (ix1 o)) o := by
  rw [result_at, out]
  refine congrArg (· + _) (Finset.sum_congr rfl fun k _ => congrArg (· * _) ?_)
  generalize (⟨k.val / 64, by omega⟩ : Fin 8) = h
  generalize (⟨k.val % 64, by omega⟩ : Fin 64) = d
  rw [summed_at, sampled]
  refine Finset.sum_congr rfl fun p _ => congrArg₂ (· * ·) ?_ ?_
  · rw [weight_at x0 x8 x9 x10 x11 hL, weight]
    simp only [logit_at]
  · have eb : (⟨(b.val * 8 + h.val) / 8, by omega⟩ : Fin 4) = b := Fin.ext (by show (b.val * 8 + h.val) / 8 = b.val; omega)
    have eh : (⟨(b.val * 8 + h.val) % 8, by omega⟩ : Fin 8) = h := Fin.ext (by show (b.val * 8 + h.val) % 8 = h.val; omega)
    have er : (⟨n.val % 16 * 4 + (b.val * 8 + h.val) / 8, by omega⟩ : Fin 64) = ⟨n.val % 16 * 4 + b.val, by omega⟩ :=
      Fin.ext (by show n.val % 16 * 4 + (b.val * 8 + h.val) / 8 = n.val % 16 * 4 + b.val; omega)
    have ez := fun c => (off_at x0 x4 x5 x6 x7 n ⟨b.val * 8 + h.val, by omega⟩ p c).trans (tanh_at x0 x4 x5 x6 x7 _ _ _)
    simp only [er, eh] at ez
    have em := fun i j => maps_at x1 x3 ⟨b.val * 8 + h.val, by omega⟩ d i j
    simp only [eb, eh] at em
    rw [sample_at x0 x1 x3 x4 x5 x6 x7 _ _ p d _ _ (coord_mem _).1 (coord_mem _).2 (coord_mem _).1 (coord_mem _).2
      (ix_at x0 x4 x5 x6 x7 _ _ p _ (ez 0)) (iy_at x0 x4 x5 x6 x7 _ _ p _ (ez 1))]
    simp only [em]

end Cert.ReferenceIdeal.At
-- ==== Proof.Finite.lean ====
/-
  The precondition, read: the arrays the logits are computed from hold real numbers, and so do the logits.
-/
module

public import proofs.«01_k».proof.Defs
public import proofs.«01_k».proof.Proof.Gen.Pre_finite
public import proofs.«01_k».proof.Proof.Final
public import proofs.«01_k».proof.Proof.RefAt

@[expose] public section

set_option maxRecDepth 16384

noncomputable section

namespace Cert.Finite

open Idealize.ShloMosaic Idealize.ShloMosaic.TcCoe Idealize.SL.Sem
open Cert.Scalars Cert.Spec Cert.KernelIdeal.Final

/-- An array whose absolute values all compare below infinity holds real numbers. -/
theorem real_of_mask {S : Shape} (hb : (⟨0, ![]⟩ : Shape).BroadcastsInDim S (![] : Fin 0 → Fin S.rank)) (x : FVec Ideal S .f32)
    (h : cmpf .olt (Host.absf x) (broadcastInDim S ![] hb (constant (F := Ideal) ⟨0, ![]⟩ .f32 0x7F800000#32)) = fun _ => 1#1)
    (i : S.Idx) : Real? (x i) := by
  have hi := congrFun h i
  pointwise at hi
  rw [lit_top] at hi
  refine .of_abs_lt ?_
  by_contra hn
  have hf : decide (FloatOps.absf (F := Ideal) (x i) < (⊤ : EReal)) = false := decide_eq_false hn
  rw [hf] at hi
  exact absurd hi (by decide)

/-- Logits of real arrays are real. -/
theorem logits_real {x : FVec Ideal KernelIdeal.S4x64x768 .f32} {W1 : FVec Ideal KernelIdeal.S768x768 .f32}
    {b1 : FVec Ideal KernelIdeal.S768 .f32} {W2 : FVec Ideal KernelIdeal.S768x64 .f32} {b2 : FVec Ideal KernelIdeal.S64 .f32}
    (hx : ∀ i, Real? (x i)) (hW1 : ∀ i, Real? (W1 i)) (hb1 : ∀ i, Real? (b1 i)) (hW2 : ∀ i, Real? (W2 i))
    (hb2 : ∀ i, Real? (b2 i)) (b : Fin 4) (n k : Fin 64) : Real? (logits x W1 b1 W2 b2 b n k) :=
  net_real (fun _ => hx _) (fun _ _ => hW1 _) (fun _ => hb1 _) (fun _ _ => hW2 _) (fun _ => hb2 _) k

/-- The reference's result array, where every query's logits are real. -/
theorem reference_eq (x0 : FVec Ideal KernelIdeal.S4x64x768 .f32) (x1 : FVec Ideal KernelIdeal.S4x1024x768 .f32)
    (x3 : FVec Ideal KernelIdeal.S768x512 .f32) (x4 : FVec Ideal KernelIdeal.S768x768 .f32) (x5 : FVec Ideal KernelIdeal.S768 .f32)
    (x6 : FVec Ideal KernelIdeal.S768x128 .f32) (x7 : FVec Ideal KernelIdeal.S128 .f32) (x8 : FVec Ideal KernelIdeal.S768x768 .f32)
    (x9 : FVec Ideal KernelIdeal.S768 .f32) (x10 : FVec Ideal KernelIdeal.S768x64 .f32) (x11 : FVec Ideal KernelIdeal.S64 .f32)
    (x12 : FVec Ideal KernelIdeal.S512x768 .f32) (x13 : FVec Ideal KernelIdeal.S768 .f32)
    (hL : ∀ b n k, Real? (logits x0 x8 x9 x10 x11 b n k)) :
    ReferenceIdeal.Read.val_main_v260 (F := Ideal) x0 x1 x3 x4 x5 x6 x7 x8 x9 x10 x11 x12 x13
      = result x0 x1 x3 x4 x5 x6 x7 x8 x9 x10 x11 x12 x13 := by
  funext i
  idx_vars i
  refine (ReferenceIdeal.At.out_at x0 x1 x3 x4 x5 x6 x7 x8 x9 x10 x11 x12 x13 (fun j => ?_) i0 i1 i2).trans rfl
  idx_vars j
  rw [ReferenceIdeal.At.logit_at]
  exact hL j0 j1 _

/-- Under the precondition every query's logits are real. -/
theorem logits_of_pre (m : (ℓ : Loc KernelIdeal.nD KernelIdeal.τ KernelIdeal.sig) → Buf (Elt Ideal) ℓ)
    (h : Cert.Pre_KernelIdeal_finite (hPre_finite := Cert.Pre_finite.Gen.facts) m) (c : Dev KernelIdeal.nD) (b : Fin 4) (n k : Fin 64) :
    Real? (logits (m ((c.tc : Thread KernelIdeal.nD KernelIdeal.τ).loc KernelIdeal.main_arg0))
      (m ((c.tc : Thread KernelIdeal.nD KernelIdeal.τ).loc KernelIdeal.main_arg8))
      (m ((c.tc : Thread KernelIdeal.nD KernelIdeal.τ).loc KernelIdeal.main_arg9))
      (m ((c.tc : Thread KernelIdeal.nD KernelIdeal.τ).loc KernelIdeal.main_arg10))
      (m ((c.tc : Thread KernelIdeal.nD KernelIdeal.τ).loc KernelIdeal.main_arg11)) b n k) := by
  obtain ⟨h0, h8, h9, h10, h11⟩ := h c
  exact logits_real (real_of_mask _ _ h0) (real_of_mask _ _ h8) (real_of_mask _ _ h9) (real_of_mask _ _ h10)
    (real_of_mask _ _ h11) b n k

end Cert.Finite
-- ==== Proof.lean ====
/-
  The proof of `Cert.Claim`. The frames come from the runs of the programs. The value claim compares the two result
  arrays: each is `Cert.KernelIdeal.Final.result` of the argument arrays.
-/
module

public import proofs.«01_k».proof.Defs
public import proofs.«01_k».proof.Proof.Gen.Kernel
public import proofs.«01_k».proof.Proof.Gen.Kernel.Skeleton
public import proofs.«01_k».proof.Proof.Gen.Kernel.Launch
public import proofs.«01_k».proof.Proof.Gen.Kernel.Points
public import proofs.«01_k».proof.Proof.Gen.Kernel.Frame
public import proofs.«01_k».proof.Proof.Gen.KernelIdeal
public import proofs.«01_k».proof.Proof.Gen.KernelIdeal.Skeleton
public import proofs.«01_k».proof.Proof.Gen.KernelIdeal.Launch
public import proofs.«01_k».proof.Proof.Gen.KernelIdeal.Points
public import proofs.«01_k».proof.Proof.Gen.KernelIdeal.Frame
public import proofs.«01_k».proof.Proof.Gen.ReferenceIdeal
public import proofs.«01_k».proof.Proof.Gen.KernelIdeal.Value
public import proofs.«01_k».proof.Proof.Gen.ReferenceIdeal.Run
public import proofs.«01_k».proof.Proof.Gen.ReferenceIdeal.Read
public import proofs.«01_k».proof.Proof.Gen.Pre_finite
public import proofs.«01_k».proof.Proof.Finite
public import Idealize.ShloMosaic.Adequacy
public import Idealize.ShloMosaic.Init
public import Idealize.ShloMosaic.Lib.Claim

@[expose] public section

set_option maxRecDepth 16384

noncomputable section

namespace Cert.Proof

open Idealize.ShloMosaic Idealize.SL.Sem

/-- The reference runs, its arguments end unchanged and every counter ends at zero. -/
theorem frame_reference : Cert.quiescent_ReferenceIdeal (hReferenceIdeal := Cert.ReferenceIdeal.Gen.facts) := by
  intro m g _
  exact (θ_run Cert.ReferenceIdeal.defs _ _).mono
    (fun r h => ⟨fun c => (h c).2, Idealize.ShloMosaic.sem_eq_zero_of_no_sems (by decide) r.2⟩)
    (Cert.ReferenceIdeal.Value.run (F := Ideal) m g)

set_option maxHeartbeats 1600000 in
/-- The kernel and the reference compute the same result. -/
theorem same_result : Cert.algebraic_KernelIdeal_ReferenceIdeal_pre_finite (hKernelIdeal := Cert.KernelIdeal.Gen.facts)
    (hReferenceIdeal := Cert.ReferenceIdeal.Gen.facts) (hPre_finite := Cert.Pre_finite.Gen.facts) := by
  pair_intro
  · run_from Cert.KernelIdeal.Gen.run_main m g
  · run_from Cert.ReferenceIdeal.Value.run m' g'
    obtain ⟨a0, a1, -, a3, a4, a5, a6, a7, a8, a9, a10, a11, a12, a13⟩ := hagree c
    rw [← a12, ← a13]
    refine (Cert.ReferenceIdeal.Read.val_main_v260_eq (StableHlo.launchContents m' c)).trans ?_
    have hL := Cert.Finite.logits_of_pre m hpre c
    rw [Cert.KernelIdeal.Final.final m c hL]
    rw [← a0, ← a8, ← a9, ← a10, ← a11] at hL
    rw [← a0, ← a1, ← a3, ← a4, ← a5, ← a6, ← a7, ← a8, ← a9, ← a10, ← a11, ← a12, ← a13]
    exact Cert.Finite.reference_eq _ _ _ _ _ _ _ _ _ _ _ _ _ hL

/-- Every claim of the certificate. -/
theorem claim : Cert.Claim := ⟨Cert.Kernel.Gen.facts, Cert.KernelIdeal.Gen.facts, Cert.ReferenceIdeal.Gen.facts,
  Cert.Pre_finite.Gen.facts, fun m ρ _ => Cert.Kernel.Gen.frame m ρ, fun m ρ _ => Cert.KernelIdeal.Gen.frame m ρ,
  fun m ρ _ => Cert.KernelIdeal.Gen.frame m ρ, frame_reference, fun m g _ => frame_reference m g trivial, trivial, same_result⟩

end Cert.Proof

end
